-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x256 : Shape := ⟨2, ![131072, 256]⟩
abbrev S4x256 : Shape := ⟨2, ![4, 256]⟩
abbrev S2x256 : Shape := ⟨2, ![2, 256]⟩
abbrev S6x256 : Shape := ⟨2, ![6, 256]⟩
abbrev S6 : Shape := ⟨1, ![6]⟩
abbrev S256x256 : Shape := ⟨2, ![256, 256]⟩
abbrev S256 : Shape := ⟨1, ![256]⟩
abbrev S1x6 : Shape := ⟨2, ![1, 6]⟩
abbrev S8192x256 : Shape := ⟨2, ![8192, 256]⟩
abbrev S6x1 : Shape := ⟨2, ![6, 1]⟩
abbrev S5 : Shape := ⟨1, ![5]⟩
abbrev S6x8192 : Shape := ⟨2, ![6, 8192]⟩
abbrev S8192 : Shape := ⟨1, ![8192]⟩
abbrev S1x8192 : Shape := ⟨2, ![1, 8192]⟩
abbrev S1 : Shape := ⟨1, ![1]⟩
abbrev S_ : Shape := ⟨0, ![]⟩
abbrev S4096x256 : Shape := ⟨2, ![4096, 256]⟩
abbrev S2048x256 : Shape := ⟨2, ![2048, 256]⟩
abbrev S1024x256 : Shape := ⟨2, ![1024, 256]⟩
abbrev S512x256 : Shape := ⟨2, ![512, 256]⟩
abbrev S6x4096 : Shape := ⟨2, ![6, 4096]⟩
abbrev S4096 : Shape := ⟨1, ![4096]⟩
abbrev S1x4096 : Shape := ⟨2, ![1, 4096]⟩
abbrev S6x2048 : Shape := ⟨2, ![6, 2048]⟩
abbrev S2048 : Shape := ⟨1, ![2048]⟩
abbrev S1x2048 : Shape := ⟨2, ![1, 2048]⟩
abbrev S6x1024 : Shape := ⟨2, ![6, 1024]⟩
abbrev S1024 : Shape := ⟨1, ![1024]⟩
abbrev S1x1024 : Shape := ⟨2, ![1, 1024]⟩
abbrev S6x512 : Shape := ⟨2, ![6, 512]⟩
abbrev S512 : Shape := ⟨1, ![512]⟩
abbrev S1x512 : Shape := ⟨2, ![1, 512]⟩
abbrev S4x1 : Shape := ⟨2, ![4, 1]⟩
abbrev S2x1 : Shape := ⟨2, ![2, 1]⟩

abbrev nBuf : Space → Nat
  | .hbm => 9
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S4x256, .f32⟩
  | .hbm, ⟨2, _⟩ => ⟨S2x256, .f32⟩
  | .hbm, ⟨3, _⟩ => ⟨S6x256, .f32⟩
  | .hbm, ⟨4, _⟩ => ⟨S6, .f32⟩
  | .hbm, ⟨5, _⟩ => ⟨S256x256, .f32⟩
  | .hbm, ⟨6, _⟩ => ⟨S256, .f32⟩
  | .hbm, ⟨7, _⟩ => ⟨S1x6, .f32⟩
  | .hbm, ⟨8, _⟩ => ⟨S6x256, .f32⟩
  | .local _ .vmem, ⟨0, _⟩ => ⟨S8192x256, .f32⟩
  | .local _ .vmem, ⟨1, _⟩ => ⟨S8192x256, .f32⟩
  | .local _ .vmem, ⟨2, _⟩ => ⟨S6x256, .f32⟩
  | .local _ .vmem, ⟨3, _⟩ => ⟨S1x6, .f32⟩
  | .local _ .vmem, ⟨4, _⟩ => ⟨S4x256, .f32⟩
  | .local _ .vmem, ⟨5, _⟩ => ⟨S2x256, .f32⟩
  | .local _ .vmem, ⟨6, _⟩ => ⟨S6x256, .f32⟩
  | .local _ .vmem, ⟨7, _⟩ => ⟨S6x1, .f32⟩
  | .local _ .vmem, ⟨8, _⟩ => ⟨S8192x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![15], ![false]⟩

def k0_cond4 (i : grid0.Coords) : BitVec 1 :=
  let arg0 : BitVec 32 := BitVec.ofNat 32 (i 0).val
  let c14_i32 : BitVec 32 := 14#32
  let v30 : BitVec 1 := Scalar.cmpi .eq arg0 c14_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S131072x256 : Shape := ⟨2, ![131072, 256]⟩
abbrev S4x256 : Shape := ⟨2, ![4, 256]⟩
abbrev S2x256 : Shape := ⟨2, ![2, 256]⟩
abbrev S6x256 : Shape := ⟨2, ![6, 256]⟩
abbrev S6 : Shape := ⟨1, ![6]⟩
abbrev S256x256 : Shape := ⟨2, ![256, 256]⟩
abbrev S256 : Shape := ⟨1, ![256]⟩
abbrev S8x256 : Shape := ⟨2, ![8, 256]⟩
abbrev S_ : Shape := ⟨0, ![]⟩
abbrev S256x6 : Shape := ⟨2, ![256, 6]⟩
abbrev S131072x6 : Shape := ⟨2, ![131072, 6]⟩
abbrev S1x6 : Shape := ⟨2, ![1, 6]⟩
abbrev S131072 : Shape := ⟨1, ![131072]⟩
abbrev S131072x1 : Shape := ⟨2, ![131072, 1]⟩
abbrev S6x1 : Shape := ⟨2, ![6, 1]⟩

abbrev nBuf : Space → Nat
  | .hbm => 44
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S4x256, .f32⟩
  | .hbm, ⟨2, _⟩ => ⟨S2x256, .f32⟩
  | .hbm, ⟨3, _⟩ => ⟨S6x256, .f32⟩
  | .hbm, ⟨4, _⟩ => ⟨S6, .f32⟩
  | .hbm, ⟨5, _⟩ => ⟨S256x256, .f32⟩
  | .hbm, ⟨6, _⟩ => ⟨S256, .f32⟩
  | .hbm, ⟨7, _⟩ => ⟨S8x256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S256x6, .f32⟩
  | .hbm, ⟨17, _⟩ => ⟨S131072x6, .f32⟩
  | .hbm, ⟨18, _⟩ => ⟨S1x6, .f32⟩
  | .hbm, ⟨19, _⟩ => ⟨S131072x6, .f32⟩
  | .hbm, ⟨20, _⟩ => ⟨S131072x6, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S131072x1, .f32⟩
  | .hbm, ⟨27, _⟩ => ⟨S131072x6, .f32⟩
  | .hbm, ⟨28, _⟩ => ⟨S131072x6, .f32⟩
  | .hbm, ⟨29, _⟩ => ⟨S131072x6, .f32⟩
  | .hbm, ⟨30, _⟩ => ⟨S_, .f32⟩
  | .hbm, ⟨31, _⟩ => ⟨S131072, .f32⟩
  | .hbm, ⟨32, _⟩ => ⟨S131072x1, .f32⟩
  | .hbm, ⟨33, _⟩ => ⟨S131072x6, .f32⟩
  | .hbm, ⟨34, _⟩ => ⟨S131072x6, .f32⟩
  | .hbm, ⟨35, _⟩ => ⟨S_, .f32⟩
  | .hbm, ⟨36, _⟩ => ⟨S6, .f32⟩
  | .hbm, ⟨37, _⟩ => ⟨S_, .f32⟩
  | .hbm, ⟨38, _⟩ => ⟨S6, .f32⟩
  | .hbm, ⟨39, _⟩ => ⟨S6, .f32⟩
  | .hbm, ⟨40, _⟩ => ⟨S6x256, .f32⟩
  | .hbm, ⟨41, _⟩ => ⟨S6x1, .f32⟩
  | .hbm, ⟨42, _⟩ => ⟨S6x256, .f32⟩
  | .hbm, ⟨43, _⟩ => ⟨S6x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.KernelIdeal.Body.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev xM : Memref sig .tc .hbm S131072x256 .f32 := Memref.whole main_arg0
abbrev accM : Memref sig .tc .vmem S6x1 .f32 := Memref.whole cc0_scratch0
abbrev tailM : Memref sig .tc .vmem S8192x256 .f32 := Memref.whole cc0_scratch1

abbrev cond1 (i : grid0.Coords) : BitVec 1 :=
  Scalar.cmpi .ne (Scalar.extui (Scalar.cmpi .eq (BitVec.ofNat 32 (i 0).val) 0#32) : BitVec 32) 0#32
abbrev cond2 (i : grid0.Coords) : BitVec 1 :=
  Scalar.cmpi .ne (Scalar.extui (Scalar.cmpi .sgt (BitVec.ofNat 32 (i 0).val) 0#32) : BitVec 32) 0#32
abbrev cond3 (i : grid0.Coords) : BitVec 1 :=
  Scalar.cmpi .ne (Scalar.extui (Scalar.cmpi .eq (BitVec.ofNat 32 (i 0).val) 13#32) : BitVec 32) 0#32

section Runs
variable (c : Dev nD) (i : grid0.Coords)
  (arg1 : Memref sig .tc .vmem S8192x256 .f32) (harg1 : arg1.IsWhole)
  (arg3 : Memref sig .tc .vmem S6x256 .f32) (harg3 : arg3.IsWhole)
  (arg4 : Memref sig .tc .vmem S1x6 .f32) (harg4 : arg4.IsWhole)
  (arg5 : Memref sig .tc .vmem S4x256 .f32) (harg5 : arg5.IsWhole)
  (arg6 : Memref sig .tc .vmem S2x256 .f32) (harg6 : arg6.IsWhole)
  (arg7 : Memref sig .tc .vmem S6x256 .f32) (harg7 : arg7.IsWhole)
  (x : Vec F S8192x256 .f32) (w : Vec F S6x256 .f32) (b : Vec F S1x6 .f32)

abbrev bodyOf : Prog (TpuEff nD τ sig (Elt F) Λ₀ .tc) PUnit :=
  cc0__router_kernel i arg1 harg1 xM (Memref.isWhole_whole _) arg3 harg3 arg4 harg4 arg5 harg5 arg6 harg6 arg7 harg7
    accM (Memref.isWhole_whole _) tailM (Memref.isWhole_whole _) cc0_scratch2

theorem run_first (h1 : cond1 i = 1#1) (h2 : ¬ cond2 i = 1#1) (h3 : ¬ cond3 i = 1#1) (h4 : ¬ k0_cond4 i = 1#1) (K : PUnit → sProp 𝕄) :
    iprop(owns (c : Thread nD τ) arg1 fullShare x ∗ owns (c : Thread nD τ) arg3 fullShare w ∗ owns (c : Thread nD τ) arg4 fullShare b
        ∗ (∃ a, owns (c : Thread nD τ) accM fullShare a)
        ∗ (iprop(owns (c : Thread nD τ) arg1 fullShare x ∗ owns (c : Thread nD τ) arg3 fullShare w ∗ owns (c : Thread nD τ) arg4 fullShare b
            ∗ owns (c : Thread nD τ) accM fullShare (k0_pay4 w b x)) -∗ K ⟨⟩))
      ⊢ wp frame (wpE (defs₀ (F := F)) Variants.none c none) Set.univ
          (bodyOf i arg1 harg1 arg3 harg3 arg4 harg4 arg5 harg5 arg6 harg6 arg7 harg7) K := by
  unfold bodyOf
  simp only [cc0__router_kernel_eq_skeleton]; unfold cc0__router_kernel_skel
  unfold owns
  iintro ⟨⟨%f1, %e1, H1⟩, ⟨%f3, %e3, H3⟩, ⟨%f4, %e4, H4⟩, ⟨%a, %f8, -, H8⟩, Hk⟩
  sl_exec
  sl_step
  iapply Hk
  isplitl [H1]; · iexists f1; isplitr; · ipureintro; exact e1
                  iexact H1
  isplitl [H3]; · iexists f3; isplitr; · ipureintro; exact e3
                  iexact H3
  isplitl [H4]; · iexists f4; isplitr; · ipureintro; exact e4
                  iexact H4
  iexists _; isplitr
  swap; iexact H8
  ipureintro
  rw [View.read_writes_full, View.readAt_full, View.readAt_full, View.readAt_full, e1, e3, e4]

theorem run_mid (h1 : ¬ cond1 i = 1#1) (h2 : cond2 i = 1#1) (h3 : ¬ cond3 i = 1#1) (h4 : ¬ k0_cond4 i = 1#1)
    (a : Vec F S6x1 .f32) (K : PUnit → sProp 𝕄) :
    iprop(owns (c : Thread nD τ) arg1 fullShare x ∗ owns (c : Thread nD τ) arg3 fullShare w ∗ owns (c : Thread nD τ) arg4 fullShare b
        ∗ owns (c : Thread nD τ) accM fullShare a
        ∗ (iprop(owns (c : Thread nD τ) arg1 fullShare x ∗ owns (c : Thread nD τ) arg3 fullShare w ∗ owns (c : Thread nD τ) arg4 fullShare b
            ∗ owns (c : Thread nD τ) accM fullShare (k0_pay5 w b x a)) -∗ K ⟨⟩))
      ⊢ wp frame (wpE (defs₀ (F := F)) Variants.none c none) Set.univ
          (bodyOf i arg1 harg1 arg3 harg3 arg4 harg4 arg5 harg5 arg6 harg6 arg7 harg7) K := by
  unfold bodyOf
  simp only [cc0__router_kernel_eq_skeleton]; unfold cc0__router_kernel_skel
  unfold owns
  iintro ⟨⟨%f1, %e1, H1⟩, ⟨%f3, %e3, H3⟩, ⟨%f4, %e4, H4⟩, ⟨%f8, %e8, H8⟩, Hk⟩
  sl_exec
  sl_step
  iapply Hk
  isplitl [H1]; · iexists f1; isplitr; · ipureintro; exact e1
                  iexact H1
  isplitl [H3]; · iexists f3; isplitr; · ipureintro; exact e3
                  iexact H3
  isplitl [H4]; · iexists f4; isplitr; · ipureintro; exact e4
                  iexact H4
  iexists _; isplitr
  swap; iexact H8
  ipureintro
  rw [View.read_writes_full, View.readAt_full, View.readAt_full, View.readAt_full, View.readAt_full, e1, e3, e4, e8]

abbrev src0 : Memref sig .tc .hbm S4096x256 .f32 := xM.slice (Rect.unit (s := S131072x256) ![122880, 0] S4096x256.size inb_S131072x256_S4096x256_122880_0) (fun _ => rfl)
abbrev src1 : Memref sig .tc .hbm S2048x256 .f32 := xM.slice (Rect.unit (s := S131072x256) ![126976, 0] S2048x256.size inb_S131072x256_S2048x256_126976_0) (fun _ => rfl)
abbrev src2 : Memref sig .tc .hbm S1024x256 .f32 := xM.slice (Rect.unit (s := S131072x256) ![129024, 0] S1024x256.size inb_S131072x256_S1024x256_129024_0) (fun _ => rfl)
abbrev src3 : Memref sig .tc .hbm S512x256 .f32 := xM.slice (Rect.unit (s := S131072x256) ![130048, 0] S512x256.size inb_S131072x256_S512x256_130048_0) (fun _ => rfl)
abbrev src4 : Memref sig .tc .hbm S512x256 .f32 := xM.slice (Rect.unit (s := S131072x256) ![130560, 0] S512x256.size inb_S131072x256_S512x256_130560_0) (fun _ => rfl)
abbrev dst0 : Memref sig .tc .vmem S4096x256 .f32 := tailM.slice (Rect.unit (s := S8192x256) ![0, 0] S4096x256.size inb_S8192x256_S4096x256_0_0) (fun _ => rfl)
abbrev dst1 : Memref sig .tc .vmem S2048x256 .f32 := tailM.slice (Rect.unit (s := S8192x256) ![4096, 0] S2048x256.size inb_S8192x256_S2048x256_4096_0) (fun _ => rfl)
abbrev dst2 : Memref sig .tc .vmem S1024x256 .f32 := tailM.slice (Rect.unit (s := S8192x256) ![6144, 0] S1024x256.size inb_S8192x256_S1024x256_6144_0) (fun _ => rfl)
abbrev dst3 : Memref sig .tc .vmem S512x256 .f32 := tailM.slice (Rect.unit (s := S8192x256) ![7168, 0] S512x256.size inb_S8192x256_S512x256_7168_0) (fun _ => rfl)
abbrev dst4 : Memref sig .tc .vmem S512x256 .f32 := tailM.slice (Rect.unit (s := S8192x256) ![7680, 0] S512x256.size inb_S8192x256_S512x256_7680_0) (fun _ => rfl)

/-- What transfer 0 lands in the tail buffer: rows of the activations, read at the source window. -/
abbrev pay0 (XA : Buf (Elt F) (xM.view.loc (c : Thread nD τ))) : Vec F S4096x256 .f32 := ReadAs.same.apply (src0.view.read (Elt F) XA)
abbrev flight0 (q : PosShare TreeShare) (XA : Buf (Elt F) (xM.view.loc (c : Thread nD τ))) (g : Buf (Elt F) (tailM.view.loc (c : Thread nD τ))) : sProp 𝕄 :=
  Transfers.Flight countersEmb (c : Thread nD τ) (SemLoc.dma 7) () 131072
    iprop((dst0.view.loc (c : Thread nD τ) ↦[dst0.view.set]{fullShare} dst0.view.writes (Elt F) g [⟨Rect.whole S4096x256, pay0 c XA⟩])
      ∗ (src0.view.loc (c : Thread nD τ) ↦[src0.view.set]{q} XA))
/-- What transfer 1 lands in the tail buffer: rows of the activations, read at the source window. -/
abbrev pay1 (XA : Buf (Elt F) (xM.view.loc (c : Thread nD τ))) : Vec F S2048x256 .f32 := ReadAs.same.apply (src1.view.read (Elt F) XA)
abbrev flight1 (q : PosShare TreeShare) (XA : Buf (Elt F) (xM.view.loc (c : Thread nD τ))) (g : Buf (Elt F) (tailM.view.loc (c : Thread nD τ))) : sProp 𝕄 :=
  Transfers.Flight countersEmb (c : Thread nD τ) (SemLoc.dma 8) () 65536
    iprop((dst1.view.loc (c : Thread nD τ) ↦[dst1.view.set]{fullShare} dst1.view.writes (Elt F) g [⟨Rect.whole S2048x256, pay1 c XA⟩])
      ∗ (src1.view.loc (c : Thread nD τ) ↦[src1.view.set]{q} XA))
/-- What transfer 2 lands in the tail buffer: rows of the activations, read at the source window. -/
abbrev pay2 (XA : Buf (Elt F) (xM.view.loc (c : Thread nD τ))) : Vec F S1024x256 .f32 := ReadAs.same.apply (src2.view.read (Elt F) XA)
abbrev flight2 (q : PosShare TreeShare) (XA : Buf (Elt F) (xM.view.loc (c : Thread nD τ))) (g : Buf (Elt F) (tailM.view.loc (c : Thread nD τ))) : sProp 𝕄 :=
  Transfers.Flight countersEmb (c : Thread nD τ) (SemLoc.dma 9) () 32768
    iprop((dst2.view.loc (c : Thread nD τ) ↦[dst2.view.set]{fullShare} dst2.view.writes (Elt F) g [⟨Rect.whole S1024x256, pay2 c XA⟩])
      ∗ (src2.view.loc (c : Thread nD τ) ↦[src2.view.set]{q} XA))
/-- What transfer 3 lands in the tail buffer: rows of the activations, read at the source window. -/
abbrev pay3 (XA : Buf (Elt F) (xM.view.loc (c : Thread nD τ))) : Vec F S512x256 .f32 := ReadAs.same.apply (src3.view.read (Elt F) XA)
abbrev flight3 (q : PosShare TreeShare) (XA : Buf (Elt F) (xM.view.loc (c : Thread nD τ))) (g : Buf (Elt F) (tailM.view.loc (c : Thread nD τ))) : sProp 𝕄 :=
  Transfers.Flight countersEmb (c : Thread nD τ) (SemLoc.dma 10) () 16384
    iprop((dst3.view.loc (c : Thread nD τ) ↦[dst3.view.set]{fullShare} dst3.view.writes (Elt F) g [⟨Rect.whole S512x256, pay3 c XA⟩])
      ∗ (src3.view.loc (c : Thread nD τ) ↦[src3.view.set]{q} XA))
/-- What transfer 4 lands in the tail buffer: rows of the activations, read at the source window. -/
abbrev pay4 (XA : Buf (Elt F) (xM.view.loc (c : Thread nD τ))) : Vec F S512x256 .f32 := ReadAs.same.apply (src4.view.read (Elt F) XA)
abbrev flight4 (q : PosShare TreeShare) (XA : Buf (Elt F) (xM.view.loc (c : Thread nD τ))) (g : Buf (Elt F) (tailM.view.loc (c : Thread nD τ))) : sProp 𝕄 :=
  Transfers.Flight countersEmb (c : Thread nD τ) (SemLoc.dma 11) () 16384
    iprop((dst4.view.loc (c : Thread nD τ) ↦[dst4.view.set]{fullShare} dst4.view.writes (Elt F) g [⟨Rect.whole S512x256, pay4 c XA⟩])
      ∗ (src4.view.loc (c : Thread nD τ) ↦[src4.view.set]{q} XA))

theorem run_issue (h1 : ¬ cond1 i = 1#1) (h2 : cond2 i = 1#1) (h3 : cond3 i = 1#1) (h4 : ¬ k0_cond4 i = 1#1)
    (a : Vec F S6x1 .f32) (XA : Buf (Elt F) (xM.view.loc (c : Thread nD τ))) (g : Buf (Elt F) (tailM.view.loc (c : Thread nD τ)))
    (q : PosShare TreeShare) (K : PUnit → sProp 𝕄) :
    iprop(owns (c : Thread nD τ) arg1 fullShare x ∗ owns (c : Thread nD τ) arg3 fullShare w ∗ owns (c : Thread nD τ) arg4 fullShare b
        ∗ owns (c : Thread nD τ) accM fullShare a
        ∗ (dst0.view.loc (c : Thread nD τ) ↦[dst0.view.set]{fullShare} g)
        ∗ (dst1.view.loc (c : Thread nD τ) ↦[dst1.view.set]{fullShare} g)
        ∗ (dst2.view.loc (c : Thread nD τ) ↦[dst2.view.set]{fullShare} g)
        ∗ (dst3.view.loc (c : Thread nD τ) ↦[dst3.view.set]{fullShare} g)
        ∗ (dst4.view.loc (c : Thread nD τ) ↦[dst4.view.set]{fullShare} g)
        ∗ (src0.view.loc (c : Thread nD τ) ↦[src0.view.set]{q} XA)
        ∗ (src1.view.loc (c : Thread nD τ) ↦[src1.view.set]{q} XA)
        ∗ (src2.view.loc (c : Thread nD τ) ↦[src2.view.set]{q} XA)
        ∗ (src3.view.loc (c : Thread nD τ) ↦[src3.view.set]{q} XA)
        ∗ (src4.view.loc (c : Thread nD τ) ↦[src4.view.set]{q} XA)
        ∗ semVal ((c : Thread nD τ), SemLoc.dma 7) 0 ∗ semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0
        ∗ (iprop(owns (c : Thread nD τ) arg1 fullShare x ∗ owns (c : Thread nD τ) arg3 fullShare w ∗ owns (c : Thread nD τ) arg4 fullShare b
            ∗ owns (c : Thread nD τ) accM fullShare (k0_pay5 w b x a)
            ∗ flight0 c q XA g ∗ flight1 c q XA g ∗ flight2 c q XA g ∗ flight3 c q XA g ∗ flight4 c q XA g) -∗ K ⟨⟩))
      ⊢ wp frame (wpE (defs₀ (F := F)) Variants.none c none) Set.univ
          (bodyOf i arg1 harg1 arg3 harg3 arg4 harg4 arg5 harg5 arg6 harg6 arg7 harg7) K := by
  unfold bodyOf
  rw [cc0__router_kernel_eq_skeleton]; unfold cc0__router_kernel_skel
  unfold owns
  iintro ⟨⟨%f1, %e1, H1⟩, ⟨%f3, %e3, H3⟩, ⟨%f4, %e4, H4⟩, ⟨%f8, %e8, H8⟩, D0, D1, D2, D3, D4, S0, S1, S2, S3, S4, Q0, Q1, Q2, Q3, Q4, Hk⟩
  sl_exec
  sl_step
  iapply Hk
  isplitl [H1]; · iexists f1; isplitr; · ipureintro; exact e1
                  iexact H1
  isplitl [H3]; · iexists f3; isplitr; · ipureintro; exact e3
                  iexact H3
  isplitl [H4]; · iexists f4; isplitr; · ipureintro; exact e4
                  iexact H4
  isplitl [H8]
  · iexists _; isplitr
    swap; iexact H8
    ipureintro
    rw [View.read_writes_full, View.readAt_full, View.readAt_full, View.readAt_full, View.readAt_full, e1, e3, e4, e8]
  isplitl [Q0]; · iexact Q0
  isplitl [Q1]; · iexact Q1
  isplitl [Q2]; · iexact Q2
  isplitl [Q3]; · iexact Q3
  iexact Q4

/-- The mean of the softmax weights the last grid point ends with: the running sum `a` with the five tail windows' chunks added, scaled. -/
def avgOf (w : Vec F S6x256 .f32) (b : Vec F S1x6 .f32) (a : Vec F S6x1 .f32) (t0 : Vec F S4096x256 .f32) (t1 : Vec F S2048x256 .f32)
    (t2 : Vec F S1024x256 .f32) (t3 t4 : Vec F S512x256 .f32) : FVec F S6x1 .f32 :=
  k0_pay11 (k0_pay1 w) (k0_pay2 b)
    (k0_pay9 (k0_pay1 w) (k0_pay2 b) (k0_pay7 (k0_pay1 w) (k0_pay2 b) a t0) (k0_pay8 (k0_pay1 w) (k0_pay2 b) t1) t2)
    (k0_pay10 (k0_pay1 w) (k0_pay2 b) t3) t4

/-- The four upper rows of the result. -/
def topOf (w : Vec F S6x256 .f32) (b : Vec F S1x6 .f32) (a : Vec F S6x1 .f32) (t0 : Vec F S4096x256 .f32) (t1 : Vec F S2048x256 .f32)
    (t2 : Vec F S1024x256 .f32) (t3 t4 : Vec F S512x256 .f32) (s4 : Vec F S4x256 .f32) : FVec F S4x256 .f32 :=
  k0_pay12 (k0_pay1 w) (k0_pay2 b)
    (k0_pay9 (k0_pay1 w) (k0_pay2 b) (k0_pay7 (k0_pay1 w) (k0_pay2 b) a t0) (k0_pay8 (k0_pay1 w) (k0_pay2 b) t1) t2)
    (k0_pay10 (k0_pay1 w) (k0_pay2 b) t3) t4 s4

/-- An index of the result among its four upper rows, as an index of those rows. -/
def topIdx (j : S6x256.Idx) (h : (j (0 : Fin 2)).val < 4) : S4x256.Idx
  | ⟨0, _⟩ => (⟨(j (0 : Fin 2)).val, h⟩ : Fin 4)
  | ⟨1, _⟩ => (j (1 : Fin 2) : Fin 256)

/-- An index of the result among its two lower rows, as an index of those rows. -/
def botIdx (j : S6x256.Idx) : S2x256.Idx
  | ⟨0, _⟩ => (⟨(j (0 : Fin 2)).val - 4, by have : (j (0 : Fin 2)).val < 6 := (j (0 : Fin 2)).isLt; omega⟩ : Fin 2)
  | ⟨1, _⟩ => (j (1 : Fin 2) : Fin 256)

/-- A result of six rows from its four upper rows and its two lower ones. -/
def stack (u : Vec F S4x256 .f32) (v : Vec F S2x256 .f32) : Vec F S6x256 .f32 := fun j =>
  if h : (j (0 : Fin 2)).val < 4 then u (topIdx j h) else v (botIdx j)

/-- What the last grid point stores, from the running sum before it, the point's own chunk, the five tail windows and the two memories. -/
def resultOf (w : Vec F S6x256 .f32) (b : Vec F S1x6 .f32) (a : Vec F S6x1 .f32) (t0 : Vec F S4096x256 .f32) (t1 : Vec F S2048x256 .f32)
    (t2 : Vec F S1024x256 .f32) (t3 t4 : Vec F S512x256 .f32) (s4 : Vec F S4x256 .f32) (s2 : Vec F S2x256 .f32) : Vec F S6x256 .f32 :=
  stack (topOf w b a t0 t1 t2 t3 t4 s4) (k0_pay6 (avgOf w b a t0 t1 t2 t3 t4) s2)

/-- Reading a window of the tail buffer through the whole buffer reads what the transfer into that window landed. -/
theorem readAt_landed {off size : Fin S8192x256.rank → ℕ} (inb : ∀ a, off a + size a ≤ S8192x256.size a)
    (f : (tailM.view.slice (Rect.unit (s := S8192x256) off size inb)).ty.Contents (Elt F))
    (p : (Rect.unit (s := S8192x256) off size inb).shape.Idx → Elt F .f32) :
    View.readAt (Elt F) tailM.view (Rect.unit (s := S8192x256) off size inb).toLoadRect
      ((tailM.view.slice (Rect.unit (s := S8192x256) off size inb)).writes (Elt F) f [⟨Rect.whole _, p⟩]) = p := by
  funext y
  have h := View.read_writes_cons_emb (tailM.view.slice (Rect.unit (s := S8192x256) off size inb)) f (Rect.whole _) p [] y
  rw [Rect.emb_whole_apply] at h
  exact h

theorem read_stack (arg7 : Memref sig .tc .vmem S6x256 .f32) (f : arg7.view.ty.Contents (Elt F)) (u : Vec F S4x256 .f32) (v : Vec F S2x256 .f32) :
    arg7.view.read (Elt F) (arg7.view.writes (Elt F) f
      [⟨Rect.unit (s := S6x256) ![4, 0] S2x256.size inb_S6x256_S2x256_4_0, v⟩, ⟨Rect.unit (s := S6x256) ![0, 0] S4x256.size inb_S6x256_S4x256_0_0, u⟩])
      = stack u v := by
  funext j
  have hj : (j (0 : Fin 2)).val < 6 := (j (0 : Fin 2)).isLt
  unfold stack
  split
  · rename_i h
    refine (View.read_writes_cons_rows_of_not_mem arg7.view f inb_S6x256_S2x256_4_0 v _ j (W := 2) (o := 4) rfl rfl (Or.inl h)).trans ?_
    exact View.read_writes_cons_rows_of_mem arg7.view f inb_S6x256_S4x256_0_0 u _ j
      (topIdx j h) (o := 0) rfl (Nat.zero_add _).symm rfl
  · rename_i h
    exact View.read_writes_cons_rows_of_mem arg7.view f inb_S6x256_S2x256_4_0 v _ j
      (botIdx j) (o := 4) rfl (by show (j (0 : Fin 2)).val = 4 + ((j (0 : Fin 2)).val - 4); omega) rfl

theorem run_last (h1 : ¬ cond1 i = 1#1) (h2 : cond2 i = 1#1) (h3 : ¬ cond3 i = 1#1) (h4 : k0_cond4 i = 1#1)
    (a : Vec F S6x1 .f32) (s4 : Vec F S4x256 .f32) (s2 : Vec F S2x256 .f32)
    (XA : Buf (Elt F) (xM.view.loc (c : Thread nD τ))) (g : Buf (Elt F) (tailM.view.loc (c : Thread nD τ)))
    (q : PosShare TreeShare) (W : Waits sig Unit) (K : PUnit → sProp 𝕄) :
    iprop(owns (c : Thread nD τ) arg1 fullShare x ∗ owns (c : Thread nD τ) arg3 fullShare w ∗ owns (c : Thread nD τ) arg4 fullShare b
        ∗ owns (c : Thread nD τ) arg5 fullShare s4 ∗ owns (c : Thread nD τ) arg6 fullShare s2
        ∗ (∃ d, owns (c : Thread nD τ) arg7 fullShare d)
        ∗ owns (c : Thread nD τ) accM fullShare a
        ∗ flight0 c q XA g ∗ flight1 c q XA g ∗ flight2 c q XA g ∗ flight3 c q XA g ∗ flight4 c q XA g
        ∗ owes (c : Thread nD τ) 0 W
        ∗ (iprop(owns (c : Thread nD τ) arg1 fullShare x ∗ owns (c : Thread nD τ) arg3 fullShare w ∗ owns (c : Thread nD τ) arg4 fullShare b
            ∗ owns (c : Thread nD τ) arg5 fullShare s4 ∗ owns (c : Thread nD τ) arg6 fullShare s2
            ∗ owns (c : Thread nD τ) arg7 fullShare (resultOf w b (k0_pay5 w b x a) (pay0 c XA) (pay1 c XA) (pay2 c XA) (pay3 c XA) (pay4 c XA) s4 s2)
            ∗ (∃ d, owns (c : Thread nD τ) accM fullShare d)
            ∗ (∃ f, dst0.view.loc (c : Thread nD τ) ↦[dst0.view.set]{fullShare} f)
            ∗ (∃ f, dst1.view.loc (c : Thread nD τ) ↦[dst1.view.set]{fullShare} f)
            ∗ (∃ f, dst2.view.loc (c : Thread nD τ) ↦[dst2.view.set]{fullShare} f)
            ∗ (∃ f, dst3.view.loc (c : Thread nD τ) ↦[dst3.view.set]{fullShare} f)
            ∗ (∃ f, dst4.view.loc (c : Thread nD τ) ↦[dst4.view.set]{fullShare} f)
            ∗ (src0.view.loc (c : Thread nD τ) ↦[src0.view.set]{q} XA)
            ∗ (src1.view.loc (c : Thread nD τ) ↦[src1.view.set]{q} XA)
            ∗ (src2.view.loc (c : Thread nD τ) ↦[src2.view.set]{q} XA)
            ∗ (src3.view.loc (c : Thread nD τ) ↦[src3.view.set]{q} XA)
            ∗ (src4.view.loc (c : Thread nD τ) ↦[src4.view.set]{q} XA)
            ∗ semVal ((c : Thread nD τ), SemLoc.dma 7) 0 ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ (∃ W', owes (c : Thread nD τ) 0 W')) -∗ K ⟨⟩))
      ⊢ wp frame (wpE (defs₀ (F := F)) Variants.none c none) Set.univ
          (bodyOf i arg1 harg1 arg3 harg3 arg4 harg4 arg5 harg5 arg6 harg6 arg7 harg7) K := by
  unfold bodyOf
  rw [cc0__router_kernel_eq_skeleton]; unfold cc0__router_kernel_skel
  rw [k0_part1_eq_skeleton, k0_part2_eq_skeleton, k0_part3_eq_skeleton]
  unfold k0_part1_skel k0_part2_skel k0_part3_skel
  unfold owns
  iintro ⟨⟨%f1, %e1, H1⟩, ⟨%f3, %e3, H3⟩, ⟨%f4, %e4, H4⟩, ⟨%f5, %e5, H5⟩, ⟨%f6, %e6, H6⟩, ⟨%d7, %f7, -, H7⟩, ⟨%f8, %e8, H8⟩, Q0, Q1, Q2, Q3, Q4, HW, Hk⟩
  sl_exec
  sl_step
  iapply Hk
  isplitl [H1]; · iexists f1; isplitr; · ipureintro; exact e1
                  iexact H1
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]
  · iexists _; isplitr
    swap; iexact H7
    ipureintro
    rw [read_stack]
    unfold resultOf topOf avgOf
    have r0 : View.readAt (Elt F) tailM.view (Rect.unit (s := S8192x256) ![0, 0] S4096x256.size inb_S8192x256_S4096x256_0_0).toLoadRect
        (dst0.view.writes (Elt F) dst0.view.junk [⟨Rect.whole S4096x256, pay0 c XA⟩]) = pay0 c XA := readAt_landed _ _ _
    have r1 : View.readAt (Elt F) tailM.view (Rect.unit (s := S8192x256) ![4096, 0] S2048x256.size inb_S8192x256_S2048x256_4096_0).toLoadRect
        (dst1.view.writes (Elt F) dst1.view.junk [⟨Rect.whole S2048x256, pay1 c XA⟩]) = pay1 c XA := readAt_landed _ _ _
    have r2 : View.readAt (Elt F) tailM.view (Rect.unit (s := S8192x256) ![6144, 0] S1024x256.size inb_S8192x256_S1024x256_6144_0).toLoadRect
        (dst2.view.writes (Elt F) dst2.view.junk [⟨Rect.whole S1024x256, pay2 c XA⟩]) = pay2 c XA := readAt_landed _ _ _
    have r3 : View.readAt (Elt F) tailM.view (Rect.unit (s := S8192x256) ![7168, 0] S512x256.size inb_S8192x256_S512x256_7168_0).toLoadRect
        (dst3.view.writes (Elt F) dst3.view.junk [⟨Rect.whole S512x256, pay3 c XA⟩]) = pay3 c XA := readAt_landed _ _ _
    have r4 : View.readAt (Elt F) tailM.view (Rect.unit (s := S8192x256) ![7680, 0] S512x256.size inb_S8192x256_S512x256_7680_0).toLoadRect
        (dst4.view.writes (Elt F) dst4.view.junk [⟨Rect.whole S512x256, pay4 c XA⟩]) = pay4 c XA := readAt_landed _ _ _
    have q3 : View.readAt (Elt F) arg3.view (Rect.unit (s := S6x256) ![0, 0] S6x256.size inb_S6x256_S6x256_0_0).toLoadRect f3 = w := by
      rw [View.readAt_full, e3]
    have q4 : View.readAt (Elt F) arg4.view (Rect.unit (s := S1x6) ![0, 0] S1x6.size inb_S1x6_S1x6_0_0).toLoadRect f4 = b := by
      rw [View.readAt_full, e4]
    have q5 : View.readAt (Elt F) arg5.view (Rect.unit (s := S4x256) ![0, 0] S4x256.size inb_S4x256_S4x256_0_0).toLoadRect f5 = s4 := by
      rw [View.readAt_full, e5]
    have q6 : View.readAt (Elt F) arg6.view (Rect.unit (s := S2x256) ![0, 0] S2x256.size inb_S2x256_S2x256_0_0).toLoadRect f6 = s2 := by
      rw [View.readAt_full, e6]
    simp only [r0, r1, r2, r3, r4, q3, q4, q5, q6]
    have hv : run_last.sl.v33 c arg1 arg3 arg4 f1 f3 f4 f8 = k0_pay5 w b x a := by
      unfold run_last.sl.v33 run_last.sl.H8_1
      first
        | rw [View.readCov_full, View.readAt_full, View.readAt_full, View.readAt_full, View.readAt_full, e1, e3, e4, e8]
        | rw [View.readAt_writes_full, View.readAt_full, View.readAt_full, View.readAt_full, View.readAt_full, e1, e3, e4, e8]
    rw [hv]
  isplitl [H8]; · iexists _, _; isplitr; swap; · iexact H8
                  ipureintro; rfl
  isplitl [Q0_dst]; · iexists _; iexact Q0_dst
  isplitl [Q1_dst]; · iexists _; iexact Q1_dst
  isplitl [Q2_dst]; · iexists _; iexact Q2_dst
  isplitl [Q3_dst]; · iexists _; iexact Q3_dst
  isplitl [Q4_dst]; · iexists _; iexact Q4_dst
  isplitl [Q0_src]; · iexact Q0_src
  isplitl [Q1_src]; · iexact Q1_src
  isplitl [Q2_src]; · iexact Q2_src
  isplitl [Q3_src]; · iexact Q3_src
  isplitl [Q4_src]; · iexact Q4_src
  isplitl [Q0]; · iexact Q0
  isplitl [Q1]; · iexact Q1
  isplitl [Q2]; · iexact Q2
  isplitl [Q3]; · iexact Q3
  isplitl [Q4]; · iexact Q4
  iexists _; iexact HW

end Runs
end Cert.KernelIdeal.Hand
end
-- ==== Proof.KernelIdeal.Run.lean ====
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The tail buffer and the activations, cut into the transfers' windows -/

/-- The elements of the tail buffer under destination window `k`. -/
def dstSet : Fin 5 → Finset S8192x256.Idx
  | 0 => dst0.view.set | 1 => dst1.view.set | 2 => dst2.view.set | 3 => dst3.view.set | 4 => dst4.view.set

/-- The elements of the activations under source window `k`. -/
def srcSet : Fin 5 → Finset S131072x256.Idx
  | 0 => src0.view.set | 1 => src1.view.set | 2 => src2.view.set | 3 => src3.view.set | 4 => src4.view.set

/-- The first row and the number of rows of destination window `k`. -/
def dstOff : Fin 5 → Fin 2 → ℕ := ![![0, 0], ![4096, 0], ![6144, 0], ![7168, 0], ![7680, 0]]
/-- The first row and column of source window `k`. -/
def srcOff : Fin 5 → Fin 2 → ℕ := ![![122880, 0], ![126976, 0], ![129024, 0], ![130048, 0], ![130560, 0]]
/-- The extents of window `k`. -/
def winSize : Fin 5 → Fin 2 → ℕ := ![![4096, 256], ![2048, 256], ![1024, 256], ![512, 256], ![512, 256]]

theorem dst_inb : ∀ (k : Fin 5) (a : Fin 2), dstOff k a + winSize k a ≤ S8192x256.size a := by decide
theorem src_inb : ∀ (k : Fin 5) (a : Fin 2), srcOff k a + winSize k a ≤ S131072x256.size a := by decide

theorem dstSet_eq : ∀ k : Fin 5, dstSet k = (Rect.unit (s := S8192x256) (dstOff k) (winSize k) (dst_inb k)).set
  | 0 => View.set_slice_whole cc0_scratch1 _ | 1 => View.set_slice_whole cc0_scratch1 _ | 2 => View.set_slice_whole cc0_scratch1 _
  | 3 => View.set_slice_whole cc0_scratch1 _ | 4 => View.set_slice_whole cc0_scratch1 _
theorem srcSet_eq : ∀ k : Fin 5, srcSet k = (Rect.unit (s := S131072x256) (srcOff k) (winSize k) (src_inb k)).set
  | 0 => View.set_slice_whole main_arg0 _ | 1 => View.set_slice_whole main_arg0 _ | 2 => View.set_slice_whole main_arg0 _
  | 3 => View.set_slice_whole main_arg0 _ | 4 => View.set_slice_whole main_arg0 _

theorem dstSet_disjoint (b b' : Fin 5) (h : b ≠ b') : Disjoint (dstSet b) (dstSet b') := by
  rw [dstSet_eq, dstSet_eq]
  exact Rect.unit_disjoint (0 : Fin 2) (by revert b b'; decide)

theorem srcSet_disjoint (b b' : Fin 5) (h : b ≠ b') : Disjoint (srcSet b) (srcSet b') := by
  rw [srcSet_eq, srcSet_eq]
  exact Rect.unit_disjoint (0 : Fin 2) (by revert b b'; decide)

/-- All five destination windows' elements. -/
def dstAll : Finset S8192x256.Idx := Finset.univ.biUnion dstSet
/-- All five source windows' elements. -/
def srcAll : Finset S131072x256.Idx := Finset.univ.biUnion srcSet

theorem bigSep5 {M : Type} [URA M] (Φ : Fin 5 → sProp M) :
    bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), 1, 2, 3, 4] (by decide) (by decide) Φ

section Cut
variable (c : Dev nD)

/-- The tail buffer held whole is held window by window, beside the elements under no window. -/
theorem tail_cut (g : Buf (Elt F) (tailM.view.loc (c : Thread nD τ))) :
    (tailM.view.loc (c : Thread nD τ) ↦{fullShare} g : sProp 𝕄) ⊢
      iprop((dst0.view.loc (c : Thread nD τ) ↦[dst0.view.set]{fullShare} g)
        ∗ (dst1.view.loc (c : Thread nD τ) ↦[dst1.view.set]{fullShare} g)
        ∗ (dst2.view.loc (c : Thread nD τ) ↦[dst2.view.set]{fullShare} g)
        ∗ (dst3.view.loc (c : Thread nD τ) ↦[dst3.view.set]{fullShare} g)
        ∗ (dst4.view.loc (c : Thread nD τ) ↦[dst4.view.set]{fullShare} g)
        ∗ (tailM.view.loc (c : Thread nD τ) ↦[Finset.univ \ dstAll]{fullShare} g)) := by
  refine (pointsTo_split_subset (ℓ := tailM.view.loc (c : Thread nD τ)) (Finset.subset_univ dstAll)).1.trans ?_
  rw [Ring.pointsTo_sub_blocks (ℓ := tailM.view.loc (c : Thread nD τ)) dstSet dstSet_disjoint dstAll rfl g, bigSep5]
  iintro ⟨⟨H0, H1, H2, H3, H4⟩, HR⟩
  isplitl [H0]; · iexact H0
  isplitl [H1]; · iexact H1
  isplitl [H2]; · iexact H2
  isplitl [H3]; · iexact H3
  isplitl [H4]; · iexact H4
  iexact HR

/-- The windows of the tail buffer, each at something, and the rest of it join to the buffer at something. -/
theorem tail_join (g : Buf (Elt F) (tailM.view.loc (c : Thread nD τ))) :
    iprop((∃ f, dst0.view.loc (c : Thread nD τ) ↦[dst0.view.set]{fullShare} f)
        ∗ (∃ f, dst1.view.loc (c : Thread nD τ) ↦[dst1.view.set]{fullShare} f)
        ∗ (∃ f, dst2.view.loc (c : Thread nD τ) ↦[dst2.view.set]{fullShare} f)
        ∗ (∃ f, dst3.view.loc (c : Thread nD τ) ↦[dst3.view.set]{fullShare} f)
        ∗ (∃ f, dst4.view.loc (c : Thread nD τ) ↦[dst4.view.set]{fullShare} f)
        ∗ (tailM.view.loc (c : Thread nD τ) ↦[Finset.univ \ dstAll]{fullShare} g))
      ⊢ (iprop(∃ f, tailM.view.loc (c : Thread nD τ) ↦{fullShare} f) : sProp 𝕄) := by
  have hj := Ring.pointsTo_sub_blocks_join_exists (Val := Elt F) (Ix := Unit) (Name := ℕ) (U := Pipeline.UD sig nD τ) (Lvl := ℕ)
    (ℓ := tailM.view.loc (c : Thread nD τ)) dstSet dstSet_disjoint dstAll rfl (q := fullShare) g
  rw [bigSep5] at hj
  iintro ⟨H0, H1, H2, H3, H4, HR⟩
  ihave H := hj $$ [H0 H1 H2 H3 H4]
  · isplitl [H0]; · iexact H0
    isplitl [H1]; · iexact H1
    isplitl [H2]; · iexact H2
    isplitl [H3]; · iexact H3
    iexact H4
  icases H with ⟨%f, H⟩
  ihave H' := (pointsTo_join_subset (ℓ := tailM.view.loc (c : Thread nD τ)) (Finset.subset_univ dstAll)) $$ [H HR]
  · isplitl [H]; · iexact H
    iexact HR
  iexists _; iexact H'

/-- The activations held at a share are held window by window of the transfers' sources, beside the rest. -/
theorem src_cut (q : PosShare TreeShare) (XA : Buf (Elt F) (xM.view.loc (c : Thread nD τ))) :
    (xM.view.loc (c : Thread nD τ) ↦{q} XA : sProp 𝕄) ⊣⊢
      iprop((src0.view.loc (c : Thread nD τ) ↦[src0.view.set]{q} XA)
        ∗ (src1.view.loc (c : Thread nD τ) ↦[src1.view.set]{q} XA)
        ∗ (src2.view.loc (c : Thread nD τ) ↦[src2.view.set]{q} XA)
        ∗ (src3.view.loc (c : Thread nD τ) ↦[src3.view.set]{q} XA)
        ∗ (src4.view.loc (c : Thread nD τ) ↦[src4.view.set]{q} XA)
        ∗ (xM.view.loc (c : Thread nD τ) ↦[Finset.univ \ srcAll]{q} XA)) := by
  have e := Ring.pointsTo_sub_blocks (Val := Elt F) (Ix := Unit) (Name := ℕ) (U := Pipeline.UD sig nD τ) (Lvl := ℕ)
    (ℓ := xM.view.loc (c : Thread nD τ)) srcSet srcSet_disjoint srcAll rfl (q := q) XA
  rw [bigSep5] at e
  have s := pointsTo_split_subset (Val := Elt F) (Ix := Unit) (Name := ℕ) (U := Pipeline.UD sig nD τ) (Lvl := ℕ)
    (ℓ := xM.view.loc (c : Thread nD τ)) (q := q) (f := XA) (Finset.subset_univ srcAll)
  rw [e] at s
  constructor
  · refine s.1.trans ?_
    iintro ⟨⟨H0, H1, H2, H3, H4⟩, HR⟩
    isplitl [H0]; · iexact H0
    isplitl [H1]; · iexact H1
    isplitl [H2]; · iexact H2
    isplitl [H3]; · iexact H3
    isplitl [H4]; · iexact H4
    iexact HR
  · refine BIBase.Entails.trans ?_ s.2
    iintro ⟨H0, H1, H2, H3, H4, HR⟩
    isplitr [HR]
    · isplitl [H0]; · iexact H0
      isplitl [H1]; · iexact H1
      isplitl [H2]; · iexact H2
      isplitl [H3]; · iexact H3
      iexact H4
    iexact HR

end Cut

/-! ## The grid's points -/

/-- Which branches each grid point takes: the running sum is set at point 0 and added to after it, the transfers start at
    point 13, and the result is stored at point 14. -/
theorem conds : ∀ t : Fin grid0.N, (cond1 (grid0.coords t) = 1#1 ↔ t.val = 0) ∧ (cond2 (grid0.coords t) = 1#1 ↔ ¬ t.val = 0)
    ∧ (cond3 (grid0.coords t) = 1#1 ↔ t.val = 13) ∧ (k0_cond4 (grid0.coords t) = 1#1 ↔ t.val = 14) := by
  decide

/-- The grid point numbered `n`. -/
def point (n : ℕ) : Fin cfg0.N := ⟨n % 15, by show n % 15 < grid0.N; rw [N_0]; exact Nat.mod_lt _ (by decide)⟩

theorem point_val (t : Fin cfg0.N) : point t.val = t := by
  have h : t.val < 15 := by have := t.isLt; have e : cfg0.N = 15 := N_0; omega
  exact Fin.ext (Nat.mod_eq_of_lt h)

variable (m : (ℓ : Loc nD τ sig) → Buf (Elt F) ℓ) (ρ : Dev nD → PrngReg)

/-- The chunk of activations at point `t`. -/
abbrev xAt (c : Dev nD) (t : Fin cfg0.N) : Vec F S8192x256 .f32 := iblk m c 0 t
/-- The weights staged at point `t`. -/
abbrev wAt (c : Dev nD) (t : Fin cfg0.N) : Vec F S6x256 .f32 := iblk m c 1 t
/-- The bias staged at point `t`. -/
abbrev bAt (c : Dev nD) (t : Fin cfg0.N) : Vec F S1x6 .f32 := iblk m c 2 t
/-- The first memory staged at point `t`. -/
abbrev sAt (c : Dev nD) (t : Fin cfg0.N) : Vec F S4x256 .f32 := iblk m c 3 t
/-- The second memory staged at point `t`. -/
abbrev mAt (c : Dev nD) (t : Fin cfg0.N) : Vec F S2x256 .f32 := iblk m c 4 t
/-- The activations as the region finds them. -/
abbrev XA (c : Dev nD) : Buf (Elt F) (xM.view.loc (c : Thread nD τ)) := V m c main_arg0

/-- The running sum after point `n`. -/
def accAfter (c : Dev nD) : ℕ → Vec F S6x1 .f32
  | 0 => k0_pay4 (wAt m c (point 0)) (bAt m c (point 0)) (xAt m c (point 0))
  | n + 1 => k0_pay5 (wAt m c (point (n + 1))) (bAt m c (point (n + 1))) (xAt m c (point (n + 1))) (accAfter c n)

/-- The result the last point stores. -/
def outAt (c : Dev nD) : Vec F S6x256 .f32 :=
  resultOf (wAt m c (point 14)) (bAt m c (point 14)) (accAfter m c 14) (pay0 c (XA m c)) (pay1 c (XA m c)) (pay2 c (XA m c))
    (pay3 c (XA m c)) (pay4 c (XA m c)) (sAt m c (point 14)) (mAt m c (point 14))

/-! ## The invariant and the proof data -/

/-- The kernel's own five semaphores at zero. -/
def sems (c : Dev nD) : sProp 𝕄 :=
  iprop(semVal ((c : Thread nD τ), SemLoc.dma 7) 0 ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0)

/-- With no transfer in flight: the tail buffer at something, half of the activations, the semaphores at zero. -/
def quiet (c : Dev nD) : sProp 𝕄 :=
  iprop((∃ f, tailM.view.loc (c : Thread nD τ) ↦{fullShare} f) ∗ (xM.view.loc (c : Thread nD τ) ↦{fullShare.right} XA m c) ∗ sems c)

/-- With the five transfers in flight: each transfer, and what no transfer borrowed. -/
def flying (c : Dev nD) : sProp 𝕄 :=
  iprop(∃ g, flight0 c fullShare.right (XA m c) g ∗ flight1 c fullShare.right (XA m c) g ∗ flight2 c fullShare.right (XA m c) g
    ∗ flight3 c fullShare.right (XA m c) g ∗ flight4 c fullShare.right (XA m c) g
    ∗ (tailM.view.loc (c : Thread nD τ) ↦[Finset.univ \ dstAll]{fullShare} g)
    ∗ (xM.view.loc (c : Thread nD τ) ↦[Finset.univ \ srcAll]{fullShare.right} XA m c))

/-- The accumulator at something. -/
def accAny (c : Dev nD) : sProp 𝕄 := iprop(∃ a, owns (c : Thread nD τ) accM fullShare a)

/-- The invariant before point `n`. -/
def Inv (c : Dev nD) (n : ℕ) : sProp 𝕄 :=
  if n = 0 ∨ n = 15 then iprop(accAny c ∗ quiet m c)
  else if n = 14 then iprop(owns (c : Thread nD τ) accM fullShare (accAfter m c 13) ∗ flying m c)
  else iprop(owns (c : Thread nD τ) accM fullShare (accAfter m c (n - 1)) ∗ quiet m c)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c
  Φ t := Inv m c t.val
  q w := if w = 0 then fullShare.left else fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = xAt m c t :=
  ((dats m 0 c).before_in_eq_fetched 0 rfl (fun _ => rfl) (fun _ _ _ => rfl)
    (fun t => by show iblk m c 0 t = _; unfold Dat.blockOf iblk; rw [A_eq]; try rfl) t d).trans
    (by show _ = iblk m c 0 t; unfold Dat.fetched Dat.blockOf iblk; rw [A_eq]; try rfl)
theorem before_1 (c : Dev nD) (t : Fin cfg0.N) (d) : (dats m 0 c).before 1 t d = wAt m c t :=
  ((dats m 0 c).before_in_eq_fetched 1 rfl (fun _ => rfl) (fun _ _ _ => rfl)
    (fun t => by show iblk m c 1 t = _; unfold Dat.blockOf iblk; rw [A_eq]; try rfl) t d).trans
    (by show _ = iblk m c 1 t; unfold Dat.fetched Dat.blockOf iblk; rw [A_eq]; try rfl)
theorem before_2 (c : Dev nD) (t : Fin cfg0.N) (d) : (dats m 0 c).before 2 t d = bAt m c t :=
  ((dats m 0 c).before_in_eq_fetched 2 rfl (fun _ => rfl) (fun _ _ _ => rfl)
    (fun t => by show iblk m c 2 t = _; unfold Dat.blockOf iblk; rw [A_eq]; try rfl) t d).trans
    (by show _ = iblk m c 2 t; unfold Dat.fetched Dat.blockOf iblk; rw [A_eq]; try rfl)
theorem before_3 (c : Dev nD) (t : Fin cfg0.N) (d) : (dats m 0 c).before 3 t d = sAt m c t :=
  ((dats m 0 c).before_in_eq_fetched 3 rfl (fun _ => rfl) (fun _ _ _ => rfl)
    (fun t => by show iblk m c 3 t = _; unfold Dat.blockOf iblk; rw [A_eq]; try rfl) t d).trans
    (by show _ = iblk m c 3 t; unfold Dat.fetched Dat.blockOf iblk; rw [A_eq]; try rfl)
theorem before_4 (c : Dev nD) (t : Fin cfg0.N) (d) : (dats m 0 c).before 4 t d = mAt m c t :=
  ((dats m 0 c).before_in_eq_fetched 4 rfl (fun _ => rfl) (fun _ _ _ => rfl)
    (fun t => by show iblk m c 4 t = _; unfold Dat.blockOf iblk; rw [A_eq]; try rfl) t d).trans
    (by show _ = iblk m c 4 t; unfold Dat.fetched Dat.blockOf iblk; rw [A_eq]; try rfl)

/-! ## The body obligation -/

/-- What the last window's buffer holds after point `t`: what it held, or at the last point the result. -/
def left5 (c : Dev nD) (t : Fin cfg0.N) : sProp 𝕄 :=
  if t.val = 14 then owns (c : Thread nD τ) (st0_5 t) fullShare (outAt m c)
  else iprop(∃ d, owns (c : Thread nD τ) (st0_5 t) fullShare ((dats m 0 c).before 5 t d))

/-- What the body finds at point `t`. -/
def bodyPre (c : Dev nD) (t : Fin cfg0.N) : sProp 𝕄 :=
  iprop(Inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body leaves at point `t`. -/
def bodyPost (c : Dev nD) (t : Fin cfg0.N) : sProp 𝕄 :=
  iprop(Inv m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ left5 m c t)

theorem lt15 (t : Fin cfg0.N) : t.val < 15 := by have := t.isLt; have e : cfg0.N = 15 := N_0; omega

/-- The body keeps the obligation at the first point. -/
theorem body_first (c : Dev nD) (t : Fin cfg0.N) (ht : t.val = 0) :
    bodyPre m c t ⊢ wp frame (wpE (defs₀ (F := F)) Variants.none c none) Set.univ (bodyAt0 t) (fun _ => bodyPost m c t) := by
  have hc := conds t
  unfold bodyPre bodyPost left5 Inv
  rw [if_pos (Or.inl ht), if_neg (by omega), if_neg (by omega), if_neg (by omega), show t.val + 1 - 1 = 0 by omega]
  simp only [before_0, before_1, before_2]
  iintro ⟨⟨Hacc, Hq⟩, HW, ⟨%d0, H0⟩, ⟨%d1, H1⟩, ⟨%d2, H2⟩, ⟨%d3, H3⟩, ⟨%d4, H4⟩, H5⟩
  rw [before_3, before_4]
  iapply (run_first c (grid0.coords t) (st0_0 t) _ (st0_1 t) _ (st0_2 t) _ (st0_3 t) _ (st0_4 t) _ (st0_5 t) _
    (xAt m c t) (wAt m c t) (bAt m c t) (hc.1.mpr ht) (fun h => hc.2.1.mp h ht) (fun h => by have := hc.2.2.1.mp h; omega)
    (fun h => by have := hc.2.2.2.mp h; omega))
  isplitl [H0]; · iexact H0
  isplitl [H1]; · iexact H1
  isplitl [H2]; · iexact H2
  isplitl [Hacc]; · unfold accAny; iexact Hacc
  iintro ⟨H0, H1, H2, Hacc⟩
  isplitl [Hacc Hq]
  · isplitl [Hacc]
    · have e : t = point 0 := by rw [← ht, point_val]
      rw [e]; unfold accAfter; iexact Hacc
    iexact Hq
  isplitl [HW]; · iexact HW
  isplitl [H0]; · iexact H0
  isplitl [H1]; · iexact H1
  isplitl [H2]; · iexact H2
  isplitl [H3]; · iexact H3
  isplitl [H4]; · iexact H4
  iexact H5

/-- The body keeps the obligation at points 1 to 12. -/
theorem body_mid (c : Dev nD) (t : Fin cfg0.N) (h0 : ¬ t.val = 0) (h13 : t.val < 13) :
    bodyPre m c t ⊢ wp frame (wpE (defs₀ (F := F)) Variants.none c none) Set.univ (bodyAt0 t) (fun _ => bodyPost m c t) := by
  have hc := conds t
  unfold bodyPre bodyPost left5 Inv
  rw [if_neg (by omega), if_neg (by omega), if_neg (by omega), if_neg (by omega), if_neg (by omega), show t.val + 1 - 1 = t.val by omega]
  simp only [before_0, before_1, before_2]
  iintro ⟨⟨Hacc, Hq⟩, HW, ⟨%d0, H0⟩, ⟨%d1, H1⟩, ⟨%d2, H2⟩, ⟨%d3, H3⟩, ⟨%d4, H4⟩, H5⟩
  rw [before_3, before_4]
  iapply (run_mid c (grid0.coords t) (st0_0 t) _ (st0_1 t) _ (st0_2 t) _ (st0_3 t) _ (st0_4 t) _ (st0_5 t) _
    (xAt m c t) (wAt m c t) (bAt m c t) (fun h => h0 (hc.1.mp h)) (hc.2.1.mpr h0) (fun h => by have := hc.2.2.1.mp h; omega)
    (fun h => by have := hc.2.2.2.mp h; omega) (accAfter m c (t.val - 1)))
  isplitl [H0]; · iexact H0
  isplitl [H1]; · iexact H1
  isplitl [H2]; · iexact H2
  isplitl [Hacc]; · iexact Hacc
  iintro ⟨H0, H1, H2, Hacc⟩
  isplitl [Hacc Hq]
  · isplitl [Hacc]
    · have e : accAfter m c t.val = k0_pay5 (wAt m c t) (bAt m c t) (xAt m c t) (accAfter m c (t.val - 1)) := by
        obtain ⟨n, hn⟩ := Nat.exists_eq_succ_of_ne_zero h0
        have hp := point_val t
        rw [hn] at hp ⊢
        rw [accAfter, hp]; rfl
      rw [e]; iexact Hacc
    iexact Hq
  isplitl [HW]; · iexact HW
  isplitl [H0]; · iexact H0
  isplitl [H1]; · iexact H1
  isplitl [H2]; · iexact H2
  isplitl [H3]; · iexact H3
  isplitl [H4]; · iexact H4
  iexact H5

/-- The body keeps the obligation at point 13, which starts the transfers. -/
theorem body_issue (c : Dev nD) (t : Fin cfg0.N) (ht : t.val = 13) :
    bodyPre m c t ⊢ wp frame (wpE (defs₀ (F := F)) Variants.none c none) Set.univ (bodyAt0 t) (fun _ => bodyPost m c t) := by
  have hc := conds t
  have e : t = point 13 := by rw [← ht, point_val]
  unfold bodyPre bodyPost left5 Inv
  rw [if_neg (by omega), if_neg (by omega), if_neg (by omega), if_pos (by omega), if_neg (by omega), show t.val - 1 = 12 by omega]
  simp only [before_0, before_1, before_2]
  unfold quiet sems
  iintro ⟨⟨Hacc, ⟨%g, HT⟩, HX, Q0, Q1, Q2, Q3, Q4⟩, HW, ⟨%d0, H0⟩, ⟨%d1, H1⟩, ⟨%d2, H2⟩, ⟨%d3, H3⟩, ⟨%d4, H4⟩, H5⟩
  rw [before_3, before_4]
  ihave HT' := (tail_cut c g) $$ HT
  icases HT' with ⟨D0, D1, D2, D3, D4, DR⟩
  ihave HX' := (src_cut c fullShare.right (XA m c)).1 $$ HX
  icases HX' with ⟨S0, S1, S2, S3, S4, SR⟩
  iapply (run_issue c (grid0.coords t) (st0_0 t) _ (st0_1 t) _ (st0_2 t) _ (st0_3 t) _ (st0_4 t) _ (st0_5 t) _
    (xAt m c t) (wAt m c t) (bAt m c t) (fun h => by have := hc.1.mp h; omega) (hc.2.1.mpr (by omega)) (hc.2.2.1.mpr ht)
    (fun h => by have := hc.2.2.2.mp h; omega) (accAfter m c 12) (XA m c) g fullShare.right)
  isplitl [H0]; · iexact H0
  isplitl [H1]; · iexact H1
  isplitl [H2]; · iexact H2
  isplitl [Hacc]; · iexact Hacc
  isplitl [D0]; · iexact D0
  isplitl [D1]; · iexact D1
  isplitl [D2]; · iexact D2
  isplitl [D3]; · iexact D3
  isplitl [D4]; · iexact D4
  isplitl [S0]; · iexact S0
  isplitl [S1]; · iexact S1
  isplitl [S2]; · iexact S2
  isplitl [S3]; · iexact S3
  isplitl [S4]; · iexact S4
  isplitl [Q0]; · iexact Q0
  isplitl [Q1]; · iexact Q1
  isplitl [Q2]; · iexact Q2
  isplitl [Q3]; · iexact Q3
  isplitl [Q4]; · iexact Q4
  iintro ⟨H0, H1, H2, Hacc, Q0, Q1, Q2, Q3, Q4⟩
  isplitl [Hacc Q0 Q1 Q2 Q3 Q4 DR SR]
  · isplitl [Hacc]
    · rw [show accAfter m c 13 = k0_pay5 (wAt m c (point 13)) (bAt m c (point 13)) (xAt m c (point 13)) (accAfter m c 12) from rfl, ← e]
      iexact Hacc
    unfold flying
    iexists g
    isplitl [Q0]; · iexact Q0
    isplitl [Q1]; · iexact Q1
    isplitl [Q2]; · iexact Q2
    isplitl [Q3]; · iexact Q3
    isplitl [Q4]; · iexact Q4
    isplitl [DR]; · iexact DR
    iexact SR
  isplitl [HW]; · iexact HW
  isplitl [H0]; · iexact H0
  isplitl [H1]; · iexact H1
  isplitl [H2]; · iexact H2
  isplitl [H3]; · iexact H3
  isplitl [H4]; · iexact H4
  iexact H5

/-- The body keeps the obligation at the last point, which waits for the transfers and stores the result. -/
theorem body_last (c : Dev nD) (t : Fin cfg0.N) (ht : t.val = 14) :
    bodyPre m c t ⊢ wp frame (wpE (defs₀ (F := F)) Variants.none c none) Set.univ (bodyAt0 t) (fun _ => bodyPost m c t) := by
  have hc := conds t
  have e : t = point 14 := by rw [← ht, point_val]
  unfold bodyPre bodyPost left5 Inv
  rw [if_neg (by omega), if_pos (by omega), if_pos (by omega), if_pos (by omega)]
  simp only [before_0, before_1, before_2, before_3, before_4]
  unfold flying Dat.owesAt Pipeline.owesWithin
  rw [show (dats m 0 c).owed t.castSucc = 0 from rfl, show (dats m 0 c).owed t.succ = 0 from rfl]
  iintro ⟨⟨Hacc, %g, Q0, Q1, Q2, Q3, Q4, DR, SR⟩, ⟨%W, -, HW⟩, ⟨%d0, H0⟩, ⟨%d1, H1⟩, ⟨%d2, H2⟩, ⟨%d3, H3⟩, ⟨%d4, H4⟩, ⟨%d5, H5⟩⟩
  iapply (run_last c (grid0.coords t) (st0_0 t) _ (st0_1 t) _ (st0_2 t) _ (st0_3 t) _ (st0_4 t) _ (st0_5 t) _
    (xAt m c t) (wAt m c t) (bAt m c t) (fun h => by have := hc.1.mp h; omega) (hc.2.1.mpr (by omega))
    (fun h => by have := hc.2.2.1.mp h; omega) (hc.2.2.2.mpr ht) (accAfter m c 13) (sAt m c t) (mAt m c t) (XA m c) g fullShare.right W)
  isplitl [H0]; · iexact H0
  isplitl [H1]; · iexact H1
  isplitl [H2]; · iexact H2
  isplitl [H3]; · iexact H3
  isplitl [H4]; · iexact H4
  isplitl [H5]; · iexists _; iexact H5
  isplitl [Hacc]; · iexact Hacc
  isplitl [Q0]; · iexact Q0
  isplitl [Q1]; · iexact Q1
  isplitl [Q2]; · iexact Q2
  isplitl [Q3]; · iexact Q3
  isplitl [Q4]; · iexact Q4
  isplitl [HW]; · iexact HW
  iintro ⟨H0, H1, H2, H3, H4, H5, Hacc, D0, D1, D2, D3, D4, S0, S1, S2, S3, S4, Q0, Q1, Q2, Q3, Q4, ⟨%W', HW⟩⟩
  isplitr [HW H0 H1 H2 H3 H4 H5]
  · isplitl [Hacc]; · unfold accAny; iexact Hacc
    unfold quiet sems
    isplitl [D0 D1 D2 D3 D4 DR]
    · iapply (tail_join c g)
      isplitl [D0]; · iexact D0
      isplitl [D1]; · iexact D1
      isplitl [D2]; · iexact D2
      isplitl [D3]; · iexact D3
      isplitl [D4]; · iexact D4
      iexact DR
    isplitl [S0 S1 S2 S3 S4 SR]
    · iapply (src_cut c fullShare.right (XA m c)).2
      isplitl [S0]; · iexact S0
      isplitl [S1]; · iexact S1
      isplitl [S2]; · iexact S2
      isplitl [S3]; · iexact S3
      isplitl [S4]; · iexact S4
      iexact SR
    isplitl [Q0]; · iexact Q0
    isplitl [Q1]; · iexact Q1
    isplitl [Q2]; · iexact Q2
    isplitl [Q3]; · iexact Q3
    iexact Q4
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  rw [show outAt m c = resultOf (wAt m c t) (bAt m c t) (k0_pay5 (wAt m c t) (bAt m c t) (xAt m c t) (accAfter m c 13)) (pay0 c (XA m c)) (pay1 c (XA m c))
    (pay2 c (XA m c)) (pay3 c (XA m c)) (pay4 c (XA m c)) (sAt m c t) (mAt m c t) from by rw [e]; rfl]
  iexact H5

/-- The body keeps the obligation at every point. -/
theorem sound_body (c : Dev nD) (t : Fin cfg0.N) :
    bodyPre m c t ⊢ wp frame (wpE (defs₀ (F := F)) Variants.none c none) Set.univ (bodyAt0 t) (fun _ => bodyPost m c t) := by
  have h15 := lt15 t
  by_cases h0 : t.val = 0
  · exact body_first m c t h0
  by_cases h13 : t.val < 13
  · exact body_mid m c t h0 h13
  by_cases h13' : t.val = 13
  · exact body_issue m c t h13'
  · exact body_last m c t (by omega)

theorem defs₀_row (t : Fin cfg0.N) :
    defs₀ (F := F) .tc cfg0.body (cfg0.bodyArgs t (cfg0.slots t)) = bodyAt0 t := by
  unfold defs₀; rw [Defs.onTc_tc]

theorem idle5 (t : Fin cfg0.N) : cfg0.idle (5 : Fin 6) (cfg0.grid.coords t) = !(k0_cond4 (grid0.coords t) == 1#1) := rfl

/-- The pipeline library's body obligation. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost left5
  have h5 := idle5 t
  have hf := flush0_5 t
  have h15 := lt15 t
  have hc := (conds t).2.2.2
  have i0 : cfg0.idle (0 : Fin 6) (cfg0.grid.coords t) = false := rfl
  have i1 : cfg0.idle (1 : Fin 6) (cfg0.grid.coords t) = false := rfl
  have i2 : cfg0.idle (2 : Fin 6) (cfg0.grid.coords t) = false := rfl
  have i3 : cfg0.idle (3 : Fin 6) (cfg0.grid.coords t) = false := rfl
  have i4 : cfg0.idle (4 : Fin 6) (cfg0.grid.coords t) = false := rfl
  rw [show (dats m 0 c).Φ t.succ = Inv m c (t.val + 1) from rfl]
  by_cases ht : t.val = 14
  · rw [if_pos ht]
    have hi : cfg0.idle (5 : Fin 6) (cfg0.grid.coords t) = false := by rw [h5, hc.mpr ht]; rfl
    simp only [hi, i0, i1, i2, i3, i4]
    iintro ⟨HI, HW, H0, H1, H2, H3, H4, H5⟩
    isplitl [HI]; · iexact HI
    isplitl [HW]; · iexact HW
    isplitl [H0]; · iexact H0
    isplitl [H1]; · iexact H1
    isplitl [H2]; · iexact H2
    isplitl [H3]; · iexact H3
    isplitl [H4]; · iexact H4
    rw [show idle0 (5 : Fin 6) (grid0.coords t) = false from hi]
    iexact H5
  · rw [if_neg ht]
    have hi : cfg0.idle (5 : Fin 6) (cfg0.grid.coords t) = true := by
      rw [h5]
      have : ¬ k0_cond4 (grid0.coords t) = 1#1 := fun h => ht (hc.mp h)
      simp [this]
    have hfl : (cfg0.win (5 : Fin 6)).flush t = false := by
      rw [← Bool.not_eq_true]; intro h; have := hf.mp h; omega
    simp only [hi, hfl, i0, i1, i2, i3, i4]
    iintro ⟨HI, HW, H0, H1, H2, H3, H4, H5⟩
    isplitl [HI]; · iexact HI
    isplitl [HW]; · iexact HW
    isplitl [H0]; · iexact H0
    isplitl [H1]; · iexact H1
    isplitl [H2]; · iexact H2
    isplitl [H3]; · iexact H3
    isplitl [H4]; · iexact H4
    rw [show idle0 (5 : Fin 6) (grid0.coords t) = true from hi]
    iexact H5

end Cert.KernelIdeal.Hand
end
-- ==== Proof.KernelIdeal.Launch.lean ====
module

public import proofs.«01_k».proof.Proof.KernelIdeal.Run
public import Idealize.ShloMosaic.Lib.Pipeline.Frame
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over, and how it is divided -/

/-- Every memory cell's contents at the start, read on core `c`. -/
abbrev start (c : Dev nD) : Valuation τ sig (Elt F) := fun b => m (c, b)

/-- The buffers living outside the region. -/
abbrev bufs : Finset (DevRef τ sig) := Pipeline.ucRefs τ sig

theorem held_eq (c : Dev nD) (W : Valuation τ sig (Elt F)) :
    (StableHlo.held (c : Thread nD τ) bufs W : sProp 𝕄) = unscopedBufs c (fun b => W b) :=
  (Pipeline.unscopedBufs_held c W).symm

/-- The kernel's own five semaphores. -/
def own : Fin 5 → SemLoc sig := fun j => (![SemLoc.dma 7, SemLoc.dma 8, SemLoc.dma 9, SemLoc.dma 10, SemLoc.dma 11] : Fin 5 → SemLoc sig) j

theorem own_facts : Pipeline.OwnSemFacts spec0 own := by decide

/-- The kernel's own semaphores at zero, listed. -/
theorem own_sems (c : Dev nD) :
    (Pipeline.ownSems0 (Ix := Unit) (Name := ℕ) (U := Pipeline.UD sig nD τ) (Lvl := ℕ) (Val := Elt F) (τ := τ) own c : sProp 𝕄) = sems c :=
  Pipeline.ownSems0_eq_of_list c own [0, 1, 2, 3, 4] (by decide) (by decide)

/-- The arrays of the six windows, listed: the activations at half a share, the others whole. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg3) ↦{fullShare} G 1)
        ∗ (((c : Thread nD τ).loc main_v0) ↦{fullShare} G 2) ∗ (((c : Thread nD τ).loc main_arg1) ↦{fullShare} G 3)
        ∗ (((c : Thread nD τ).loc main_arg2) ↦{fullShare} G 4) ∗ (((c : Thread nD τ).loc main_v1) ↦{fullShare} G 5)) := by
  unfold Pipeline.Dat.arrays
  refine (bigSep_congr (Ψ := fun w : Fin 6 => ((cfg0.win w).arr.view.loc (c : Thread nD τ) ↦{(dats m 0 c).share w} G w : sProp 𝕄))
    fun w _ => by rw [(arr_whole0 w).set_eq_univ]).trans ?_
  exact bigSep_W0 _

/-- The buffers at the region's entry: the windows' arrays, the other half of the activations, and the arguments
    the region does not read. -/
theorem entry_split (c : Dev nD) :
    (unscopedBufs c (fun b => V m c b) : sProp 𝕄)
      ⊢ iprop((dats m 0 c).arrays ((dats m 0 c).arrAt · 0) ∗ (((c : Thread nD τ).loc main_arg0) ↦{fullShare.right} V m c main_arg0)
        ∗ (((c : Thread nD τ).loc main_arg4) ↦{fullShare} V m c main_arg4) ∗ (((c : Thread nD τ).loc main_arg5) ↦{fullShare} V m c main_arg5)
        ∗ (((c : Thread nD τ).loc main_arg6) ↦{fullShare} V m c main_arg6)) := by
  rw [Pipeline.unscopedBufs_split cfgs 0 launch0.win.arr_unscoped launch0.win.arr_inj c, arrays_list]
  refine (BIClass.sep_mono (Entails.of_eq (bigSep_W0 _)) (Entails.of_eq (unscopedRest0_eq c _))).trans ?_
  iintro ⟨⟨H0, H1, H2, H3, H4, H5⟩, R⟩
  ihave S := (pointsTo_share (PosShare.mem_left_op_right fullShare)).1 $$ H0
  icases S with ⟨HL, HR⟩
  isplitl [HL H1 H2 H3 H4 H5]
  · isplitl [HL]; · iexact HL
    isplitl [H1]; · iexact H1
    isplitl [H2]; · iexact H2
    isplitl [H3]; · iexact H3
    isplitl [H4]; · iexact H4
    iexact H5
  isplitl [HR]; · iexact HR
  iexact R

/-- The two scratch buffers at something are the accumulator and the tail buffer at something. -/
theorem scratch_in (c : Dev nD) :
    (Pipeline.scopedRest (Ix := Unit) (Name := ℕ) (U := Pipeline.UD sig nD τ) (Lvl := ℕ) (Val := Elt F) spec0 c : sProp 𝕄)
      ⊢ iprop(accAny c ∗ ∃ f, tailM.view.loc (c : Thread nD τ) ↦{fullShare} f) := by
  rw [scopedRest0_eq]
  unfold accAny owns
  iintro ⟨⟨%f, H⟩, T⟩
  isplitl [H]
  · iexists (accM.view.read (Elt F) f); iexists f
    isplitr; · ipureintro; rfl
    rw [show accM.view.set = Finset.univ from View.set_whole _]
    iexact H
  iexact T

theorem scratch_out (c : Dev nD) :
    iprop(accAny c ∗ ∃ f, tailM.view.loc (c : Thread nD τ) ↦{fullShare} f)
      ⊢ (Pipeline.scopedRest (Ix := Unit) (Name := ℕ) (U := Pipeline.UD sig nD τ) (Lvl := ℕ) (Val := Elt F) spec0 c : sProp 𝕄) := by
  rw [scopedRest0_eq]
  unfold accAny owns
  iintro ⟨⟨%a, %f, -, H⟩, T⟩
  isplitl [H]
  · iexists f
    rw [show accM.view.set = Finset.univ from View.set_whole _]
    iexact H
  iexact T

/-! ## The two segments of the program -/

abbrev plain : Variants := Variants.none
abbrev emb₀ : Emb (UR sig nD τ) 𝕄 := embL
def tok₀ : Pipeline.UD sig nD τ := (initOf (Pipeline.cells cfgs cellOf_inj) (Pipeline.launchToks cfgs cellOf_inj), 1)
/-- No core owes another anything. -/
abbrev noLevels : GSem nD τ sig → Finset Unit := fun _ => ∅
abbrev noRank : GSem nD τ sig → Unit → ℕ := fun _ _ => 0
abbrev adm : (p : Fin 1) → (pcfgs (F := F) p).Adm := fun p => (cfgs p).toPCfg_adm
/-- A core owing nothing. -/
abbrev debtFree (c : Dev nD) : sProp 𝕄 := iprop(∃ W, owes (c : Thread nD τ) (0 : CellTallies nD τ sig Unit) W)

/-- The reshape of the bias, before the region. -/
def hostPart : Pipeline.HostSeg (Name := ℕ) (U := Pipeline.UD sig nD τ) (pcfgs (F := F)) defs₀ plain noLevels noRank :=
  Pipeline.HostSeg.ofOps _ _ _ _ _ bufs hostOps0 (fun op h => Pipeline.sub_ucRefs op ((List.forall_iff_forall_mem.mp hostOps0_sub) op h))
    (fun op h => (List.forall_iff_forall_mem.mp hostOps0_fresh) op h) (start m) debtFree

/-- What the region leaves: the windows' arrays, the other half of the activations, the arguments it did not read. -/
abbrev left (c : Dev nD) : sProp 𝕄 :=
  iprop((dats m 0 c).arrays ((dats m 0 c).arrAt · cfg0.N) ∗ (((c : Thread nD τ).loc main_arg0) ↦{fullShare.right} V m c main_arg0)
    ∗ (((c : Thread nD τ).loc main_arg4) ↦{fullShare} V m c main_arg4) ∗ (((c : Thread nD τ).loc main_arg5) ↦{fullShare} V m c main_arg5)
    ∗ (((c : Thread nD τ).loc main_arg6) ↦{fullShare} V m c main_arg6))

set_option backward.isDefEq.respectTransparency.types false in
/-- The region: it takes the buffers as the host operation left them and ends with the windows' arrays at their
    final contents, its own semaphores at zero again. -/
def regionPart : Pipeline.RegionSeg (pcfgs (F := F)) adm (dats m) () defs₀ plain noLevels noRank 0 where
  win := launch0.win.to₀
  block_pos := launch0.block_pos
  stage_whole := launch0.stage_whole
  K := Fin 5
  osem := own
  ho := own_facts
  hbody c := (body_obligation m c).loose
  hwaits := Pipeline.hwaits_of_owed_zero _ _ _ _ noLevels noRank 0 fun _ _ => rfl
  pre c := iprop(StableHlo.held (c : Thread nD τ) bufs (StableHlo.after hostOps0 (start m c)) ∗ debtFree c)
  post c := iprop(left m c ∗ debtFree c)
  X c := iprop((((c : Thread nD τ).loc main_arg0) ↦{fullShare.right} V m c main_arg0) ∗ sems c)
  Y c := (((c : Thread nD τ).loc main_arg0) ↦{fullShare.right} V m c main_arg0)
  Z c := iprop((((c : Thread nD τ).loc main_arg4) ↦{fullShare} V m c main_arg4) ∗ (((c : Thread nD τ).loc main_arg5) ↦{fullShare} V m c main_arg5)
    ∗ (((c : Thread nD τ).loc main_arg6) ↦{fullShare} V m c main_arg6))
  hentry c := by
    rw [held_eq c, own_sems]
    have hsplit := entry_split m c
    iintro ⟨⟨Hub, HO⟩, Hos, -⟩
    ihave H := hsplit $$ Hub
    icases H with ⟨Ha, HR, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR Hos]
    · isplitl [HR]; · iexact HR
      iexact Hos
    iexact HZ
  hin c := by
    rw [show (dats m 0 c).Φ 0 = iprop(accAny c ∗ quiet m c) from rfl]; unfold quiet
    iintro ⟨⟨HR, Hos⟩, -, Hr⟩
    ihave S := (scratch_in c) $$ Hr
    icases S with ⟨HA, HT⟩
    isplitl [HA]; · iexact HA
    isplitl [HT]; · iexact HT
    isplitl [HR]; · iexact HR
    iexact Hos
  hout c := by
    rw [own_sems, show (dats m 0 c).Φ (Fin.last cfg0.N) = iprop(accAny c ∗ quiet m c) from rfl]; unfold quiet
    iintro ⟨HA, HT, HR, Hos⟩
    isplitl [HR]; · iexact HR
    isplitl [Hos]; · iexact Hos
    iapply (scratch_out c)
    isplitl [HA]; · iexact HA
    iexact HT
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- The program's parts, in order. -/
abbrev parts : List (Pipeline.Seg (pcfgs (F := F)) adm (dats m) () defs₀ plain noLevels noRank) := [.host (hostPart m), .region (regionPart m)]

/-! ## The run -/

/-- The result's buffer after the run holds what the last point computed. -/
theorem out_final (c : Dev nD) : (dats m 0 c).arrAt 5 cfg0.N = outAt m c :=
  (dats m 0 c).arrAt_eq_of_after_last 5 t0_14 (by decide +kernel) (outAt m c) (fun j => rfl)

/-- What is claimed of device `c` at the end: the seven arguments as they were, the result as computed. -/
def Ends (c : Dev nD) (s : (ℓ : Loc nD τ sig) → Buf (Elt F) ℓ) : Prop :=
  s ((c : Thread nD τ).loc main_v1) = outAt m c
  ∧ s ((c : Thread nD τ).loc main_arg0) = m ((c : Thread nD τ).loc main_arg0)
  ∧ s ((c : Thread nD τ).loc main_arg1) = m ((c : Thread nD τ).loc main_arg1)
  ∧ s ((c : Thread nD τ).loc main_arg2) = m ((c : Thread nD τ).loc main_arg2)
  ∧ s ((c : Thread nD τ).loc main_arg3) = m ((c : Thread nD τ).loc main_arg3)
  ∧ s ((c : Thread nD τ).loc main_arg4) = m ((c : Thread nD τ).loc main_arg4)
  ∧ s ((c : Thread nD τ).loc main_arg5) = m ((c : Thread nD τ).loc main_arg5)
  ∧ s ((c : Thread nD τ).loc main_arg6) = m ((c : Thread nD τ).loc main_arg6)

/-- An input window's array is never written. -/
theorem in_final (c : Dev nD) (w : Fin cfg0.W) (h : (cfg0.win w).isOut = false) : (dats m 0 c).arrAt w cfg0.N = V m c (Pipeline.arrRef spec0 w) :=
  ((dats m 0 c).arrAt_in w h _).trans (A_eq m c w)

/-- What the region leaves, read in the final memory. -/
theorem left_read (c : Dev nD) (s : Phys nD τ sig (Elt F)) :
    iprop((left m c : sProp 𝕄) ∗ SI s) ⊢ iprop(⌜Ends m c s.mem.mem⌝ ∗ SI s) := by
  dsimp only [left]
  rw [arrays_list, out_final, in_final m c 0 rfl, in_final m c 1 rfl, in_final m c 2 rfl, in_final m c 3 rfl, in_final m c 4 rfl]
  iintro ⟨⟨⟨H0, H3, -, H1, H2, Ho⟩, -, H4, H5, H6⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI Ho gives %ho
  isplitr
  · ipureintro
    exact ⟨Buf.eq_of_forall_mem_univ ho, (Buf.eq_of_forall_mem_univ h0).trans (V_main_arg0 m c), (Buf.eq_of_forall_mem_univ h1).trans (V_main_arg1 m c),
      (Buf.eq_of_forall_mem_univ h2).trans (V_main_arg2 m c), (Buf.eq_of_forall_mem_univ h3).trans (V_main_arg3 m c),
      (Buf.eq_of_forall_mem_univ h4).trans (V_main_arg4 m c), (Buf.eq_of_forall_mem_univ h5).trans (V_main_arg5 m c),
      (Buf.eq_of_forall_mem_univ h6).trans (V_main_arg6 m c)⟩
  iexact HSI

set_option backward.isDefEq.respectTransparency.types false in
/-- From any memory with every counter at zero, every weakly fair execution ends, nothing faulting, with the seven
    arguments as they were, the result as computed, and every counter at zero. -/
theorem run_main : θ_run defs (onTc (τ := τ) (main (F := F))) ⟨m, fun _ => 0, ρ⟩ (fun r => (∀ c : Dev nD, Ends m c r.2.mem) ∧ r.2.sem = fun _ => 0) :=
  Pipeline.θ_run_regions_kit_sems (pcfgs (F := F)) adm (dats m) () cellOf_inj emb₀ defs₀ plain noLevels noRank m ρ main (parts m)
    (fun c Q => by rw [main_segs adm (dats m) () plain noLevels noRank (hostPart m) (regionPart m) rfl c])
    (by simp only [Pipeline.Seg.pipes_host, Pipeline.Seg.pipes_region, Pipeline.Seg.pipes_nil]; decide) (O₀ := 0) (hL := fun _ _ => rfl) (G := fun _ => iprop(emp)) (u₀ := tok₀)
    (hu₀ := by
      unfold tok₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) bufs (start m c) ∗ debtFree c)) (Tₙ := left m)
    (hch := ⟨fun _ => .rfl, fun _ => .rfl, fun _ => .rfl⟩)
    (hinit := by
      refine Pipeline.initEach noLevels noRank fun c => ?_
      rw [held_eq c (start m c)]
      iintro ⟨⟨Hh, -, HO, -, -, -⟩, -⟩
      imodintro
      isplitl [Hh]; · iexact Hh
      iexists ∅; iexact HO)
    (QY := fun c s => Ends m c s.mem)
    (hfin := fun c s' => by
      iintro H
      ihave Hr := (left_read m c s') $$ H
      imodintro
      iexact Hr)
    (hQ := fun _ h hz => ⟨h, funext fun g => hz g (.inr (by revert g; decide))⟩)

end Cert.KernelIdeal.Hand

end
-- ==== Proof.Value.Block.lean ====
module

public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.Router

open Idealize.ShloMosaic Idealize.ShloMosaic.ValueIdx

/-! ## One token's routing weights -/

/-- The logits of one token: each expert's weights against the token's activations, plus the expert's bias. -/
def logit (w : Fin 6 → Fin 256 → EReal) (b : Fin 6 → EReal) (x : Fin 256 → EReal) (k : Fin 6) : EReal :=
  (∑ d : Fin 256, w k d * x d) + b k

/-- The largest of six logits (folded from minus infinity, as both programs do). -/
def peak (v : Fin 6 → EReal) : EReal := Finset.univ.fold max (Ideal.ofBits .f32 0xFF800000#32) v

/-- The exponential of a logit's distance to the largest. -/
def rise (v : Fin 6 → EReal) (k : Fin 6) : EReal := Ideal.exp (v k - peak v)

/-- The softmax of six logits. -/
def soft (v : Fin 6 → EReal) (k : Fin 6) : EReal := Ideal.div (rise v k) (∑ k' : Fin 6, rise v k')

/-- Taking the maximum with the value the fold starts from changes nothing. -/
theorem max_peak (v : Fin 6 → EReal) : max (Ideal.ofBits .f32 0xFF800000#32) (peak v) = peak v :=
  max_eq_right (Finset.le_fold_max _ |>.2 (Or.inl le_rfl))

/-! ## A block of `n` tokens, as the kernel computes it -/

section Block
variable {n : ℕ}

/-- A block's logits, one column per token. -/
abbrev logits (D : DotDims ⟨2, ![6, 256]⟩ ⟨2, ![n, 256]⟩ ⟨2, ![6, n]⟩) (hb : (⟨2, ![6, 1]⟩ : Shape).Broadcasts ⟨2, ![6, n]⟩)
    (ht : FTy.bits .bf16 < FTy.bits .f32) (w : FVec Ideal ⟨2, ![6, 256]⟩ .bf16) (b : FVec Ideal ⟨2, ![6, 1]⟩ .f32)
    (x : FVec Ideal ⟨2, ![n, 256]⟩ .f32) : FVec Ideal ⟨2, ![6, n]⟩ .f32 :=
  addf (matmul D none w (truncf .bf16 x ht) (constant ⟨2, ![6, n]⟩ .f32 0x00000000#32)) (broadcastTo ⟨2, ![6, n]⟩ b hb)

/-- A block's exponentials, each logit's distance to the largest of its column. -/
abbrev rises (hf : FKind.Formats .f32) (hm : 0xFF800000#32 = FKind.maximumf.neutral .f32 hf)
    (hr : (⟨2, ![6, n]⟩ : Shape).Reduces [0] ⟨1, ![n]⟩) (hc : (⟨1, ![n]⟩ : Shape).ShapeCasts ⟨2, ![1, n]⟩)
    (hb : (⟨2, ![1, n]⟩ : Shape).Broadcasts ⟨2, ![6, n]⟩) (l : FVec Ideal ⟨2, ![6, n]⟩ .f32) : FVec Ideal ⟨2, ![6, n]⟩ .f32 :=
  exp (subf l (broadcastTo ⟨2, ![6, n]⟩ (shapeCast ⟨2, ![1, n]⟩
    (multiReduction .maximumf [0] ⟨1, ![n]⟩ l 0xFF800000#32 hr hf hm) hc) hb))

/-- A block's routing weights summed over its tokens. -/
abbrev sums (hf : FKind.Formats .f32) (ha : 0x00000000#32 = FKind.add.neutral .f32 hf)
    (hr : (⟨2, ![6, n]⟩ : Shape).Reduces [0] ⟨1, ![n]⟩) (hc : (⟨1, ![n]⟩ : Shape).ShapeCasts ⟨2, ![1, n]⟩)
    (hb : (⟨2, ![1, n]⟩ : Shape).Broadcasts ⟨2, ![6, n]⟩) (hs : (⟨2, ![6, n]⟩ : Shape).Reduces [1] ⟨1, ![6]⟩)
    (hk : (⟨1, ![6]⟩ : Shape).ShapeCasts ⟨2, ![6, 1]⟩) (e : FVec Ideal ⟨2, ![6, n]⟩ .f32) : FVec Ideal ⟨2, ![6, 1]⟩ .f32 :=
  shapeCast ⟨2, ![6, 1]⟩ (multiReduction .add [1] ⟨1, ![6]⟩
    (divf e (broadcastTo ⟨2, ![6, n]⟩ (shapeCast ⟨2, ![1, n]⟩
      (multiReduction .add [0] ⟨1, ![n]⟩ e 0x00000000#32 hr hf ha) hc) hb)) 0x00000000#32 hs hf ha) hk

/-- The index a reduction over the experts reads. -/
theorem lift_rows (hr : (⟨2, ![6, n]⟩ : Shape).Reduces [0] ⟨1, ![n]⟩) (r : Fin n) (k : Fin 6) : hr.lift (ix1 r) k = ix2 k r := by
  funext a; apply Fin.ext; match a with | ⟨0, _⟩ => rfl | ⟨1, _⟩ => rfl

/-- The index a reduction over the tokens reads. -/
theorem lift_cols (hs : (⟨2, ![6, n]⟩ : Shape).Reduces [1] ⟨1, ![6]⟩) (k : Fin 6) (r : Fin n) : hs.lift (ix1 k) r = ix2 k r := by
  funext a; apply Fin.ext; match a with | ⟨0, _⟩ => rfl | ⟨1, _⟩ => rfl

/-- A sum over the tokens, at an expert. -/
theorem sum_cols (hf : FKind.Formats .f32) (ha : 0x00000000#32 = FKind.add.neutral .f32 hf) (hs : (⟨2, ![6, n]⟩ : Shape).Reduces [1] ⟨1, ![6]⟩)
    (v : FVec Ideal ⟨2, ![6, n]⟩ .f32) (k : Fin 6) :
    multiReduction .add [1] ⟨1, ![6]⟩ v 0x00000000#32 hs hf ha (ix1 k) = ∑ r : Fin n, v (ix2 k r) :=
  (Ideal.multiReduction_add_single v _ hs hf ha (ix1 k)).trans (Finset.sum_congr rfl fun r _ => congrArg v (lift_cols hs k r))

/-- A sum over the experts, at a token. -/
theorem sum_rows (hf : FKind.Formats .f32) (ha : 0x00000000#32 = FKind.add.neutral .f32 hf) (hr : (⟨2, ![6, n]⟩ : Shape).Reduces [0] ⟨1, ![n]⟩)
    (v : FVec Ideal ⟨2, ![6, n]⟩ .f32) (r : Fin n) :
    multiReduction .add [0] ⟨1, ![n]⟩ v 0x00000000#32 hr hf ha (ix1 r) = ∑ k : Fin 6, v (ix2 k r) :=
  (Ideal.multiReduction_add_single v _ hr hf ha (ix1 r)).trans (Finset.sum_congr rfl fun k _ => congrArg v (lift_rows hr r k))

/-- The maximum over the experts, at a token. -/
theorem max_rows (hf : FKind.Formats .f32) (hm : 0xFF800000#32 = FKind.maximumf.neutral .f32 hf) (hr : (⟨2, ![6, n]⟩ : Shape).Reduces [0] ⟨1, ![n]⟩)
    (v : FVec Ideal ⟨2, ![6, n]⟩ .f32) (r : Fin n) :
    multiReduction .maximumf [0] ⟨1, ![n]⟩ v 0xFF800000#32 hr hf hm (ix1 r) = peak fun k => v (ix2 k r) :=
  (Ideal.multiReduction_maximumf_single v _ hr hf hm (ix1 r)).trans
    (Finset.fold_congr (s := Finset.univ) fun k _ => congrArg v (lift_rows hr r k))

/-- A column of six broadcast over `n` tokens reads the column. -/
theorem column_apply {a b : ℕ} {α : Type} (v : (⟨2, ![a, 1]⟩ : Shape).Idx → α) (hb : (⟨2, ![a, 1]⟩ : Shape).Broadcasts ⟨2, ![a, b]⟩) (k : Fin a)
    (r : Fin b) : broadcastTo ⟨2, ![a, b]⟩ v hb (ix2 k r) = v (ix2 k (0 : Fin 1)) := by
  refine broadcastTo_apply v hb (ix2 k r) (ix2 k (0 : Fin 1)) fun ax => ?_
  match ax with
  | ⟨0, _⟩ =>
    show k.val = if a = 1 then 0 else k.val
    split
    · have := k.isLt; omega
    · rfl
  | ⟨1, _⟩ => rfl

/-- A block's logits at an expert and a token are that token's logits. -/
theorem logits_apply {D : DotDims ⟨2, ![6, 256]⟩ ⟨2, ![n, 256]⟩ ⟨2, ![6, n]⟩} (hD : D = DotDims.transposedRhs 6 256 n)
    (hb : (⟨2, ![6, 1]⟩ : Shape).Broadcasts ⟨2, ![6, n]⟩) (ht : FTy.bits .bf16 < FTy.bits .f32) (w : FVec Ideal ⟨2, ![6, 256]⟩ .bf16)
    (b : FVec Ideal ⟨2, ![6, 1]⟩ .f32) (x : FVec Ideal ⟨2, ![n, 256]⟩ .f32) (k : Fin 6) (r : Fin n) :
    logits D hb ht w b x (ix2 k r)
      = logit (fun k d => w (ix2 k d)) (fun k => b (ix2 k (0 : Fin 1))) (fun d => x (ix2 r d)) k := by
  unfold logits logit matmul
  rw [addf_apply, column_apply, hD, Ideal.matmul_transposedRhs_apply, constant_apply, Ideal.ofBits_zero_f32, zero_add]
  rfl

/-- A block's exponentials at an expert and a token are that token's. -/
theorem rises_apply (hf : FKind.Formats .f32) (hm : 0xFF800000#32 = FKind.maximumf.neutral .f32 hf)
    (hr : (⟨2, ![6, n]⟩ : Shape).Reduces [0] ⟨1, ![n]⟩) (hc : (⟨1, ![n]⟩ : Shape).ShapeCasts ⟨2, ![1, n]⟩)
    (hb : (⟨2, ![1, n]⟩ : Shape).Broadcasts ⟨2, ![6, n]⟩) (l : FVec Ideal ⟨2, ![6, n]⟩ .f32) (k : Fin 6) (r : Fin n) :
    rises hf hm hr hc hb l (ix2 k r) = rise (fun k' => l (ix2 k' r)) k := by
  unfold rises rise
  show Ideal.exp (l (ix2 k r) - broadcastTo _ _ hb (ix2 k r)) = _
  rw [broadcastTo_1b_ab_apply, shapeCast_a_1a_apply, max_rows]

/-- A block's sums at an expert: the sum over the block's tokens of the quotient of the token's exponential by the token's six. -/
theorem sums_apply (hf : FKind.Formats .f32) (ha : 0x00000000#32 = FKind.add.neutral .f32 hf)
    (hr : (⟨2, ![6, n]⟩ : Shape).Reduces [0] ⟨1, ![n]⟩) (hc : (⟨1, ![n]⟩ : Shape).ShapeCasts ⟨2, ![1, n]⟩)
    (hb : (⟨2, ![1, n]⟩ : Shape).Broadcasts ⟨2, ![6, n]⟩) (hs : (⟨2, ![6, n]⟩ : Shape).Reduces [1] ⟨1, ![6]⟩)
    (hk : (⟨1, ![6]⟩ : Shape).ShapeCasts ⟨2, ![6, 1]⟩) (e : FVec Ideal ⟨2, ![6, n]⟩ .f32) (k : Fin 6) :
    sums hf ha hr hc hb hs hk e (ix2 k (0 : Fin 1)) = ∑ r : Fin n, Ideal.div (e (ix2 k r)) (∑ k' : Fin 6, e (ix2 k' r)) := by
  unfold sums
  rw [shapeCast_a_a1_apply, sum_cols]
  refine Finset.sum_congr rfl fun r _ => ?_
  rw [divf_apply, broadcastTo_1b_ab_apply, shapeCast_a_1a_apply, sum_rows]

/-- A block's sums from its logits: the sum over the block's tokens of the softmax of the token's logits. -/
theorem sums_rises_apply (hf : FKind.Formats .f32) (hm : 0xFF800000#32 = FKind.maximumf.neutral .f32 hf) (ha : 0x00000000#32 = FKind.add.neutral .f32 hf)
    (hr : (⟨2, ![6, n]⟩ : Shape).Reduces [0] ⟨1, ![n]⟩) (hc : (⟨1, ![n]⟩ : Shape).ShapeCasts ⟨2, ![1, n]⟩)
    (hb : (⟨2, ![1, n]⟩ : Shape).Broadcasts ⟨2, ![6, n]⟩) (hs : (⟨2, ![6, n]⟩ : Shape).Reduces [1] ⟨1, ![6]⟩)
    (hk : (⟨1, ![6]⟩ : Shape).ShapeCasts ⟨2, ![6, 1]⟩) (l : FVec Ideal ⟨2, ![6, n]⟩ .f32) (k : Fin 6) :
    sums hf ha hr hc hb hs hk (rises hf hm hr hc hb l) (ix2 k (0 : Fin 1)) = ∑ r : Fin n, soft (fun k' => l (ix2 k' r)) k := by
  rw [sums_apply]
  simp only [rises_apply, soft]

/-- The routing weight of expert `k` for one token: the softmax of the token's logits. -/
def share (w : Fin 6 → Fin 256 → EReal) (b : Fin 6 → EReal) (x : Fin 256 → EReal) (k : Fin 6) : EReal := soft (logit w b x) k

/-- A whole block: the sum over its tokens of their routing weights. -/
theorem block_apply {D : DotDims ⟨2, ![6, 256]⟩ ⟨2, ![n, 256]⟩ ⟨2, ![6, n]⟩} (hD : D = DotDims.transposedRhs 6 256 n)
    (hb6 : (⟨2, ![6, 1]⟩ : Shape).Broadcasts ⟨2, ![6, n]⟩) (ht : FTy.bits .bf16 < FTy.bits .f32)
    (hf : FKind.Formats .f32) (hm : 0xFF800000#32 = FKind.maximumf.neutral .f32 hf) (ha : 0x00000000#32 = FKind.add.neutral .f32 hf)
    (hr : (⟨2, ![6, n]⟩ : Shape).Reduces [0] ⟨1, ![n]⟩) (hc : (⟨1, ![n]⟩ : Shape).ShapeCasts ⟨2, ![1, n]⟩)
    (hb : (⟨2, ![1, n]⟩ : Shape).Broadcasts ⟨2, ![6, n]⟩) (hs : (⟨2, ![6, n]⟩ : Shape).Reduces [1] ⟨1, ![6]⟩)
    (hk : (⟨1, ![6]⟩ : Shape).ShapeCasts ⟨2, ![6, 1]⟩)
    (w : FVec Ideal ⟨2, ![6, 256]⟩ .bf16) (b : FVec Ideal ⟨2, ![6, 1]⟩ .f32) (x : FVec Ideal ⟨2, ![n, 256]⟩ .f32) (k : Fin 6) :
    sums hf ha hr hc hb hs hk (rises hf hm hr hc hb (logits D hb6 ht w b x)) (ix2 k (0 : Fin 1))
      = ∑ r : Fin n, share (fun k d => w (ix2 k d)) (fun k => b (ix2 k (0 : Fin 1))) (fun d => x (ix2 r d)) k := by
  rw [sums_rises_apply]
  exact Finset.sum_congr rfl fun r _ => congrArg (soft · k) (funext fun k' => logits_apply hD hb6 ht w b x k' r)

end Block

end Cert.Router

end
-- ==== Proof.Value.Payloads.lean ====
module

public import proofs.«01_k».proof.Proof.Value.Block
public import proofs.«01_k».proof.Proof.Gen.KernelIdeal.Skeleton

@[expose] public section

noncomputable section

namespace Cert.Router

open Idealize.ShloMosaic Idealize.ShloMosaic.ValueIdx Cert.KernelIdeal Cert.KernelIdeal.Gen

/-! ## What each value the kernel computes is, at an expert -/

/-- The routing weights summed over the `n` tokens of a block, from the weights and the bias as the kernel holds them. -/
def total {n : ℕ} (w : Vec Ideal S6x256 .f32) (b : Vec Ideal S1x6 .f32) (x : (⟨2, ![n, 256]⟩ : Shape).Idx → EReal) (k : Fin 6) : EReal :=
  ∑ r : Fin n, share (fun k d => w (ix2 k d)) (fun k => b (ix2 (0 : Fin 1) k)) (fun d => x (ix2 r d)) k

/-- The bias as a column reads the bias as a row. -/
theorem bias_apply (b : Vec Ideal S1x6 .f32) (k : Fin 6) : k0_pay2 b (ix2 k (0 : Fin 1)) = b (ix2 (0 : Fin 1) k) := by
  unfold k0_pay2
  rw [transpose_ix2_apply, shapeCast_self]

variable (w : Vec Ideal S6x256 .f32) (b : Vec Ideal S1x6 .f32) (k : Fin 6)

/-- A block's sum, stated over the weights and the bias as the kernel loads them. -/
theorem total_eq {n : ℕ} (x : (⟨2, ![n, 256]⟩ : Shape).Idx → EReal) :
    (∑ r : Fin n, share (fun k d => k0_pay1 w (ix2 k d)) (fun k => k0_pay2 b (ix2 k (0 : Fin 1))) (fun d => x (ix2 r d)) k) = total w b x k := by
  unfold total
  simp only [bias_apply]
  rfl

/-- The weights of one 8192-token chunk, summed. -/
theorem pay3_apply (x : Vec Ideal S8192x256 .f32) : k0_pay3 w b x (ix2 k (0 : Fin 1)) = total w b x k :=
  (block_apply (n := 8192) rfl _ _ _ _ _ _ _ _ _ _ (k0_pay1 w) (k0_pay2 b) x k).trans (total_eq w b k x)

/-- The running sum after the first chunk. -/
theorem pay4_apply (x : Vec Ideal S8192x256 .f32) : k0_pay4 w b x (ix2 k (0 : Fin 1)) = total w b x k := by
  unfold k0_pay4
  rw [shapeCast_self, pay3_apply]

/-- The running sum after a later chunk. -/
theorem pay5_apply (x : Vec Ideal S8192x256 .f32) (a : Vec Ideal S6x1 .f32) :
    k0_pay5 w b x a (ix2 k (0 : Fin 1)) = a (ix2 k (0 : Fin 1)) + total w b x k := by
  unfold k0_pay5
  rw [shapeCast_self, addf_apply, pay3_apply]

/-- The running sum after the 4096-token chunk. -/
theorem pay7_apply (a : Vec Ideal S6x1 .f32) (x : Vec Ideal S4096x256 .f32) :
    k0_pay7 (k0_pay1 w) (k0_pay2 b) a x (ix2 k (0 : Fin 1)) = a (ix2 k (0 : Fin 1)) + total w b x k :=
  congrArg (a (ix2 k (0 : Fin 1)) + ·) ((block_apply (n := 4096) rfl _ _ _ _ _ _ _ _ _ _ (k0_pay1 w) (k0_pay2 b) x k).trans (total_eq w b k x))

/-- The running sum after the chunks of 2048 and 1024 tokens. -/
theorem pay9_apply (a : Vec Ideal S6x1 .f32) (x : Vec Ideal S2048x256 .f32) (y : Vec Ideal S1024x256 .f32) :
    k0_pay9 (k0_pay1 w) (k0_pay2 b) a (k0_pay8 (k0_pay1 w) (k0_pay2 b) x) y (ix2 k (0 : Fin 1))
      = a (ix2 k (0 : Fin 1)) + total w b x k + total w b y k :=
  congrArg₂ (fun u v => a (ix2 k (0 : Fin 1)) + u + v)
    ((block_apply (n := 2048) rfl _ _ _ _ _ _ _ _ _ _ (k0_pay1 w) (k0_pay2 b) x k).trans (total_eq w b k x))
    ((block_apply (n := 1024) rfl _ _ _ _ _ _ _ _ _ _ (k0_pay1 w) (k0_pay2 b) y k).trans (total_eq w b k y))

/-- The mean: the running sum and the two chunks of 512 tokens, times the printed reciprocal of the number of tokens. -/
theorem pay11_apply (a : Vec Ideal S6x1 .f32) (x y : Vec Ideal S512x256 .f32) :
    k0_pay11 (k0_pay1 w) (k0_pay2 b) a (k0_pay10 (k0_pay1 w) (k0_pay2 b) x) y (ix2 k (0 : Fin 1))
      = (a (ix2 k (0 : Fin 1)) + total w b x k + total w b y k) * Ideal.ofBits .f32 0x37000000#32 :=
  congrArg₂ (fun u v => (a (ix2 k (0 : Fin 1)) + u + v) * Ideal.ofBits .f32 0x37000000#32)
    ((block_apply (n := 512) rfl _ _ _ _ _ _ _ _ _ _ (k0_pay1 w) (k0_pay2 b) x k).trans (total_eq w b k x))
    ((block_apply (n := 512) rfl _ _ _ _ _ _ _ _ _ _ (k0_pay1 w) (k0_pay2 b) y k).trans (total_eq w b k y))

end Cert.Router

end
-- ==== Proof.Value.Result.lean ====
module

public import proofs.«01_k».proof.Proof.Value.Block

@[expose] public section

noncomputable section

namespace Cert.Router

open Idealize.ShloMosaic Idealize.ShloMosaic.ValueIdx

/-! ## The result both programs compute -/

/-- Row `r` of an array of activations (`r` taken modulo the number of rows, so that it is defined everywhere). -/
def token (X : (⟨2, ![131072, 256]⟩ : Shape).Idx → EReal) (r : ℕ) (d : Fin 256) : EReal :=
  X (ix2 ⟨r % 131072, Nat.mod_lt _ (by decide)⟩ d)

/-- A row below the number of rows is the row itself. -/
theorem token_of_lt (X : (⟨2, ![131072, 256]⟩ : Shape).Idx → EReal) {r : ℕ} (h : r < 131072) (d : Fin 256) :
    token X r d = X (ix2 ⟨r, h⟩ d) := by
  have e : r % 131072 = r := Nat.mod_eq_of_lt h
  unfold token
  simp only [e]

/-- The routing weight of expert `k` for row `r` of the activations `X`, with weights `W` and bias `B`. -/
def weight (X : (⟨2, ![131072, 256]⟩ : Shape).Idx → EReal) (W : (⟨2, ![6, 256]⟩ : Shape).Idx → EReal) (B : (⟨1, ![6]⟩ : Shape).Idx → EReal)
    (k : Fin 6) (r : ℕ) : EReal :=
  share (fun k d => W (ix2 k d)) (fun k => B (ix1 k)) (token X r) k

/-- The six memories: the four of `S`, then the two of `M`. -/
def memory (S : (⟨2, ![4, 256]⟩ : Shape).Idx → EReal) (M : (⟨2, ![2, 256]⟩ : Shape).Idx → EReal) (k : Fin 6) (d : Fin 256) : EReal :=
  if h : k.val < 4 then S (ix2 ⟨k.val, h⟩ d) else M (ix2 ⟨k.val - 4, by have := k.isLt; omega⟩ d)

/-- The result at memory `k` and column `d`: the memory's entry times the mean over all rows of the memory's routing weight. -/
def answer (X : (⟨2, ![131072, 256]⟩ : Shape).Idx → EReal) (S : (⟨2, ![4, 256]⟩ : Shape).Idx → EReal) (M : (⟨2, ![2, 256]⟩ : Shape).Idx → EReal)
    (W : (⟨2, ![6, 256]⟩ : Shape).Idx → EReal) (B : (⟨1, ![6]⟩ : Shape).Idx → EReal) (k : Fin 6) (d : Fin 256) : EReal :=
  memory S M k d * Ideal.div (∑ r ∈ Finset.range 131072, weight X W B k r) (Ideal.ofBits .f32 0x48000000#32)

/-- Dividing by the number of rows is multiplying by its printed reciprocal. -/
theorem mean_eq (x : EReal) : x * Ideal.ofBits .f32 0x37000000#32 = Ideal.div x (Ideal.ofBits .f32 0x48000000#32) := by
  have hN : Ideal.ofBits .f32 0x48000000#32 = ((131072 : ℝ) : EReal) := by
    simp [Ideal.ofBits, Ideal.ieee, -EReal.coe_mul]; norm_num
  have hR : Ideal.ofBits .f32 0x37000000#32 = ((1 / 131072 : ℝ) : EReal) := by
    simp [Ideal.ofBits, Ideal.ieee, -EReal.coe_mul]; norm_num
  rw [hN, hR, Ideal.div_coe (by norm_num)]

end Cert.Router

end
-- ==== Proof.Value.Inputs.lean ====
module

public import proofs.«01_k».proof.Proof.KernelIdeal.Run
public import proofs.«01_k».proof.Proof.Value.Result
public import Idealize.ShloMosaic.Lib.Pipeline.ValueKit
public import Idealize.ShloMosaic.Lib.Claim
public import Idealize.ShloMosaic.Lib.Pointwise

@[expose] public section

noncomputable section

namespace Cert.Router

open Idealize.ShloMosaic Idealize.ShloMosaic.TcCoe Cert.KernelIdeal Cert.KernelIdeal.Gen Cert.KernelIdeal.Hand

variable (m : (ℓ : Loc nD τ sig) → Buf (Elt Ideal) ℓ) (c : Dev nD)

/-! ## What the kernel reads of its arguments -/

/-- Which block of its array each input window reads at each grid point: the activations' block of the point's number, the
    other arrays whole. -/
theorem blocks : ∀ t : Fin cfg0.N, win0_0.index t = ![t.val, 0] ∧ win0_1.index t = ![0, 0] ∧ win0_2.index t = ![0, 0]
    ∧ win0_3.index t = ![0, 0] ∧ win0_4.index t = ![0, 0] :=
  (by decide +kernel : ∀ t : Fin grid0.N, _)

/-- Row `r` of the chunk at point `t` is row `8192 t + r` of the activations. -/
theorem chunk_apply (t : Fin cfg0.N) (r : Fin 8192) (d : Fin 256) :
    xAt m c t (ValueIdx.ix2 r d) = token (m ((c : Thread nD τ).loc main_arg0)) (8192 * t.val + r.val) d := by
  have ht := lt15 t
  rw [token_of_lt _ (by have := r.isLt; omega)]
  blk_ext! [xAt, iblk, V, blocks t]
  show t.val * 8192 + r.val = 8192 * t.val + r.val
  omega

/-- The staged weights are the weights. -/
theorem weights_apply (t : Fin cfg0.N) (k : Fin 6) (d : Fin 256) : wAt m c t (ValueIdx.ix2 k d) = m ((c : Thread nD τ).loc main_arg3) (ValueIdx.ix2 k d) := by
  blk_ext! [wAt, iblk, V, blocks t]

/-- The staged bias is the bias. -/
theorem biases_apply (t : Fin cfg0.N) (k : Fin 6) : bAt m c t (ValueIdx.ix2 (0 : Fin 1) k) = m ((c : Thread nD τ).loc main_arg4) (ValueIdx.ix1 k) := by
  blk_ext! [bAt, iblk, V, blocks t]

/-- The first staged memory is the first memory. -/
theorem first_apply (t : Fin cfg0.N) (k : Fin 4) (d : Fin 256) : sAt m c t (ValueIdx.ix2 k d) = m ((c : Thread nD τ).loc main_arg1) (ValueIdx.ix2 k d) := by
  blk_ext! [sAt, iblk, V, blocks t]

/-- The second staged memory is the second memory. -/
theorem second_apply (t : Fin cfg0.N) (k : Fin 2) (d : Fin 256) : mAt m c t (ValueIdx.ix2 k d) = m ((c : Thread nD τ).loc main_arg2) (ValueIdx.ix2 k d) := by
  blk_ext! [mAt, iblk, V, blocks t]

/-- Row `r` of `n` rows of the activations read from row `o` on is row `o + r`. -/
theorem window_apply {n : ℕ} (o : ℕ) (inb : ∀ a, (![o, 0] : Fin 2 → ℕ) a + (⟨2, ![n, 256]⟩ : Shape).size a ≤ S131072x256.size a)
    (X : Vec Ideal S131072x256 .f32) (r : Fin n) (d : Fin 256) :
    (xM.slice (Rect.unit (s := S131072x256) ![o, 0] (⟨2, ![n, 256]⟩ : Shape).size inb) (fun _ => rfl)).view.read (Elt Ideal) X (ValueIdx.ix2 r d)
      = token X (o + r.val) d := by
  have h0 : o + n ≤ 131072 := inb 0
  rw [token_of_lt _ (by have := r.isLt; omega)]
  refine congrArg X (funext fun a => Fin.ext ?_)
  match a with
  | ⟨0, _⟩ => show o + 1 * r.val = o + r.val; omega
  | ⟨1, _⟩ => show 0 + 1 * d.val = d.val; omega

end Cert.Router

end
-- ==== Proof.Value.Kernel.lean ====
module

public import proofs.«01_k».proof.Proof.Value.Payloads
public import proofs.«01_k».proof.Proof.Value.Inputs

@[expose] public section

noncomputable section

namespace Cert.Router

open Idealize.ShloMosaic Idealize.ShloMosaic.TcCoe Cert.KernelIdeal Cert.KernelIdeal.Gen Cert.KernelIdeal.Hand
open Idealize.ShloMosaic.ValueIdx (mulf_apply slice2_axis0_apply)

variable (m : (ℓ : Loc nD τ sig) → Buf (Elt Ideal) ℓ) (c : Dev nD)

/-! ## What the kernel stores -/

/-- The routing weight of expert `k` for row `r` of the kernel's arguments. -/
abbrev weightOf (k : Fin 6) (r : ℕ) : EReal :=
  weight (m ((c : Thread nD τ).loc main_arg0)) (m ((c : Thread nD τ).loc main_arg3)) (m ((c : Thread nD τ).loc main_arg4)) k r

/-- A block whose rows are the activations' rows from `o` on sums those rows' weights. -/
theorem total_rows {n : ℕ} (t : Fin cfg0.N) (x : (⟨2, ![n, 256]⟩ : Shape).Idx → EReal) (o : ℕ)
    (hx : ∀ (r : Fin n) (d : Fin 256), x (ValueIdx.ix2 r d) = token (m ((c : Thread nD τ).loc main_arg0)) (o + r.val) d) (k : Fin 6) :
    total (wAt m c t) (bAt m c t) x k = ∑ r ∈ Finset.range n, weightOf m c k (o + r) := by
  rw [Finset.sum_range]
  unfold total weightOf weight
  simp only [hx, weights_apply, biases_apply]

/-- The chunk at point `n` sums the weights of rows `8192 n` to `8192 (n + 1)`. -/
theorem chunk_total {n : ℕ} (hn : n < 15) (k : Fin 6) :
    total (wAt m c (point n)) (bAt m c (point n)) (xAt m c (point n)) k = ∑ r ∈ Finset.range 8192, weightOf m c k (8192 * n + r) := by
  refine total_rows m c (point n) _ _ (fun r d => ?_) k
  rw [chunk_apply, show (point n).val = n from Nat.mod_eq_of_lt hn]

/-- After point `n` the running sum is the sum of the weights of the first `8192 (n + 1)` rows. -/
theorem acc_apply (k : Fin 6) : ∀ n : ℕ, n < 15 →
    accAfter m c n (ValueIdx.ix2 k (0 : Fin 1)) = ∑ r ∈ Finset.range (8192 * (n + 1)), weightOf m c k r
  | 0, h => by
    unfold accAfter
    rw [pay4_apply, chunk_total m c h]
    exact Finset.sum_congr rfl fun r _ => congrArg (weightOf m c k) (Nat.zero_add r)
  | n + 1, h => by
    unfold accAfter
    rw [pay5_apply, acc_apply k n (by omega), chunk_total m c h, show 8192 * (n + 1 + 1) = 8192 * (n + 1) + 8192 by ring, Finset.sum_range_add]

/-- Rows `o` to `o + n` of the activations, read directly, sum their weights. -/
theorem window_total {n : ℕ} (o : ℕ) (inb : ∀ a, (![o, 0] : Fin 2 → ℕ) a + (⟨2, ![n, 256]⟩ : Shape).size a ≤ S131072x256.size a) (k : Fin 6) :
    total (wAt m c (point 14)) (bAt m c (point 14))
      ((xM.slice (Rect.unit (s := S131072x256) ![o, 0] (⟨2, ![n, 256]⟩ : Shape).size inb) (fun _ => rfl)).view.read (Elt Ideal) (XA m c)) k
      = ∑ r ∈ Finset.range n, weightOf m c k (o + r) := by
  refine total_rows m c (point 14) _ _ (fun r d => ?_) k
  rw [window_apply]
  unfold XA
  rw [V_main_arg0]

/-- The mean the kernel scales by, at its own arguments. -/
abbrev mean : Vec Ideal S6x1 .f32 :=
  avgOf (wAt m c (point 14)) (bAt m c (point 14)) (accAfter m c 14) (pay0 c (XA m c)) (pay1 c (XA m c)) (pay2 c (XA m c)) (pay3 c (XA m c)) (pay4 c (XA m c))

/-- The mean at an expert is the sum of the weights of all rows, times the printed reciprocal of their number. -/
theorem mean_apply (k : Fin 6) :
    mean m c (ValueIdx.ix2 k (0 : Fin 1)) = (∑ r ∈ Finset.range 131072, weightOf m c k r) * Ideal.ofBits .f32 0x37000000#32 := by
  unfold mean avgOf
  rw [pay11_apply, pay9_apply, pay7_apply, acc_apply m c k 14 (by decide)]
  refine congrArg (· * Ideal.ofBits .f32 0x37000000#32) ?_
  rw [show (131072 : ℕ) = 8192 * (14 + 1) + 4096 + 2048 + 1024 + 512 + 512 by norm_num]
  simp only [Finset.sum_range_add]
  exact congrArg₂ (· + ·) (congrArg₂ (· + ·) (congrArg₂ (· + ·) (congrArg₂ (· + ·) (congrArg₂ (· + ·) rfl
    (window_total m c 122880 _ k)) (window_total m c 126976 _ k)) (window_total m c 129024 _ k)) (window_total m c 130048 _ k))
    (window_total m c 130560 _ k)

/-- A memory block scaled by the rows of a column from `o` on. -/
theorem scaled_apply {n : ℕ} (o : ℕ) (hs : S6x1.Slices ![o, 0] ⟨2, ![n, 1]⟩) (hb : (⟨2, ![n, 1]⟩ : Shape).Broadcasts ⟨2, ![n, 256]⟩)
    (s : FVec Ideal ⟨2, ![n, 256]⟩ .f32) (a : FVec Ideal S6x1 .f32) (j : Fin n) (d : Fin 256) (k : Fin 6) (hk : k.val = o + j.val) :
    mulf s (broadcastTo ⟨2, ![n, 256]⟩ (extractStridedSlice ⟨2, ![n, 1]⟩ ![o, 0] a hs) hb) (ValueIdx.ix2 j d)
      = s (ValueIdx.ix2 j d) * a (ValueIdx.ix2 k (0 : Fin 1)) := by
  rw [mulf_apply, column_apply, slice2_axis0_apply o a hs j 0 k hk]

/-- **What the kernel stores**, at memory `k` and column `d`. -/
theorem kernel_apply (k : Fin 6) (d : Fin 256) :
    outAt m c (ValueIdx.ix2 k d) = answer (m ((c : Thread nD τ).loc main_arg0)) (m ((c : Thread nD τ).loc main_arg1))
      (m ((c : Thread nD τ).loc main_arg2)) (m ((c : Thread nD τ).loc main_arg3)) (m ((c : Thread nD τ).loc main_arg4)) k d := by
  unfold answer memory
  rw [← mean_eq, ← mean_apply]
  unfold outAt resultOf stack
  by_cases h : k.val < 4
  · rw [dif_pos h, dif_pos h, ← first_apply m c (point 14)]
    exact (congrArg _ (ValueIdx.eq_ix2 _)).trans (scaled_apply 0 slices_S6x1_o0_0_S4x1 _ (sAt m c (point 14)) (mean m c) ⟨k.val, h⟩ d k (Nat.zero_add _).symm)
  · rw [dif_neg h, dif_neg h, ← second_apply m c (point 14)]
    exact (congrArg _ (ValueIdx.eq_ix2 _)).trans (scaled_apply 4 slices_S6x1_o4_0_S2x1 _ (mAt m c (point 14)) (mean m c) ⟨k.val - 4, by have := k.isLt; omega⟩ d k
      (by show k.val = 4 + (k.val - 4); omega))

/-- What the kernel stores is the result of Result.lean at every index. -/
theorem kernel_eq : outAt m c = fun j : S6x256.Idx => answer (m ((c : Thread nD τ).loc main_arg0)) (m ((c : Thread nD τ).loc main_arg1))
    (m ((c : Thread nD τ).loc main_arg2)) (m ((c : Thread nD τ).loc main_arg3)) (m ((c : Thread nD τ).loc main_arg4)) (j 0) (j 1) :=
  funext fun j => (congrArg (outAt m c) (ValueIdx.eq_ix2 j)).trans (kernel_apply m c (j 0) (j 1))

end Cert.Router

end
-- ==== Proof.Value.Reference.lean ====
module

public import proofs.«01_k».proof.Proof.Value.Result
public import proofs.«01_k».proof.Proof.Gen.ReferenceIdeal.Run
public import Idealize.ShloMosaic.Lib.Pointwise

@[expose] public section

noncomputable section

namespace Cert.Router

open Idealize.ShloMosaic Idealize.ShloMosaic.TcCoe Cert.ReferenceIdeal Cert.ReferenceIdeal.Gen

/-! ## What the reference computes, stage by stage -/

variable (X : FVec Ideal S131072x256 .f32) (S : FVec Ideal S4x256 .f32) (M : FVec Ideal S2x256 .f32) (W : FVec Ideal S6x256 .f32) (B : FVec Ideal S6 .f32)

/-- The logits of every row. -/
def refLogits : FVec Ideal S131072x6 .f32 :=
  addf (Host.dotGeneral dot_S131072x256_S256x6_S131072x6_1_0_0_1_n_n none X (transpose S256x6 [1, 0] W transposes_S6x256_S256x6_1_0))
    (broadcastInDim S131072x6 ![0, 1] bcast_S1x6_S131072x6_0_1 (broadcastInDim S1x6 ![1] bcast_S6_S1x6_1 B))

/-- The logits of row `r`. -/
theorem refLogits_apply (r : Fin 131072) (k : Fin 6) :
    refLogits X W B (ix2 r k) = logit (fun k d => W (ValueIdx.ix2 k d)) (fun k => B (ValueIdx.ix1 k)) (token X r.val) k := by
  unfold refLogits logit
  simp only [token_of_lt X r.isLt]
  pointwise
  exact congrArg (· + B (ix1 k)) (Finset.sum_congr rfl fun d _ => mul_comm _ _)

/-- Each row's exponentials, of the distances to its largest logit. -/
def refRises (L : FVec Ideal S131072x6 .f32) : FVec Ideal S131072x6 .f32 :=
  Host.exp (subf L (broadcastInDim S131072x6 ![0, 1] bcast_S131072x1_S131072x6_0_1 (broadcastInDim S131072x1 ![0] bcast_S131072_S131072x1_0
    (maximumf (broadcastInDim S131072 ![] bcast_S_S131072 (constant S_ .f32 0xFF800000#32))
      (Host.reduce FloatOps.maximumf L (constant S_ .f32 0xFF800000#32) reducesTo_S131072x6_S131072_d1 h_S_)))))

/-- A row's exponentials. -/
theorem refRises_apply (L : FVec Ideal S131072x6 .f32) (r : Fin 131072) (k : Fin 6) :
    refRises L (ix2 r k) = rise (fun k' => L (ix2 r k')) k := by
  unfold refRises rise
  pointwise
  exact congrArg (fun z => Ideal.exp (L (ix2 r k) - z)) (max_peak _)

/-- The reference's result from its exponentials. -/
def refResult (E : FVec Ideal S131072x6 .f32) : FVec Ideal S6x256 .f32 :=
  mulf (concatenate S6x256 0 [⟨S4x256, S⟩, ⟨S2x256, M⟩] concatenates_S4x256_S2x256_S6x256_d0)
    (broadcastInDim S6x256 ![0, 1] bcast_S6x1_S6x256_0_1 (broadcastInDim S6x1 ![0] bcast_S6_S6x1_0
      (Host.divf (Host.reduceAdd (Host.divf E (broadcastInDim S131072x6 ![0, 1] bcast_S131072x1_S131072x6_0_1
          (broadcastInDim S131072x1 ![0] bcast_S131072_S131072x1_0
            (Host.reduceAdd E (constant S_ .f32 0x00000000#32) reducesTo_S131072x6_S131072_d1 h_S_))))
        (constant S_ .f32 0x00000000#32) reducesTo_S131072x6_S6_d0 h_S_) (broadcastInDim S6 ![] bcast_S_S6 (constant S_ .f32 0x48000000#32)))))

/-- The reference's result at memory `k` and column `d`, from its exponentials. -/
theorem refResult_apply (E : FVec Ideal S131072x6 .f32) (k : Fin 6) (d : Fin 256) :
    refResult S M E (ix2 k d) = memory S M k d * Ideal.div (∑ r : Fin 131072, Ideal.div (E (ix2 r k)) (∑ k' : Fin 6, E (ix2 r k'))) (Ideal.ofBits .f32 0x48000000#32) := by
  unfold refResult memory
  pointwise
  rfl

/-- **What the reference computes**, at memory `k` and column `d`. -/
theorem reference_apply (k : Fin 6) (d : Fin 256) :
    refResult S M (refRises (refLogits X W B)) (ix2 k d) = answer X S M W B k d := by
  rw [refResult_apply, answer, Finset.sum_range]
  refine congrArg (fun z => memory S M k d * Ideal.div z (Ideal.ofBits .f32 0x48000000#32)) (Finset.sum_congr rfl fun r _ => ?_)
  simp only [refRises_apply, refLogits_apply]
  rfl

/-- The reference's own composed term, as its run states it, is `refResult` of the stages above, so at every index it is the
    result of Result.lean. -/
theorem reference_eq : refResult S M (refRises (refLogits X W B)) = fun j : S6x256.Idx => answer X S M W B (j 0) (j 1) := by
  funext j
  rw [eq_ix2 j]
  exact reference_apply X S M W B (j 0) (j 1)

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Kernel
public import proofs.«01_k».proof.Proof.Value.Reference
public import Idealize.ShloMosaic.Adequacy
public import Idealize.ShloMosaic.Init

@[expose] public section

noncomputable section

namespace Cert.Proof

open Idealize.ShloMosaic Idealize.SL.Sem

/-- The kernel runs to its end without a fault, its arguments end as they were and every counter ends at zero. -/
theorem kernel_frame : quiescent_Kernel (hKernel := Cert.Kernel.Gen.facts) := fun m ρ _ =>
  (θ_run Cert.Kernel.defs _ _).mono (fun _ h => ⟨fun c => (h.1 c).2, h.2⟩) (Cert.Kernel.Hand.run_main m ρ)

/-- The same of the kernel over the extended reals. -/
theorem kernelIdeal_frame : quiescent_KernelIdeal (hKernelIdeal := Cert.KernelIdeal.Gen.facts) := fun m ρ _ =>
  (θ_run Cert.KernelIdeal.defs _ _).mono (fun _ h => ⟨fun c => (h.1 c).2, h.2⟩) (Cert.KernelIdeal.Hand.run_main m ρ)

/-- The same of the reference over the extended reals; it has no semaphore. -/
theorem referenceIdeal_frame : quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run m ρ)

/-- **The kernel and the reference compute the same result** over the extended reals, from any arguments: each memory's entry
    times the mean, over all rows, of the memory's routing weight. -/
theorem algebraic : algebraic_KernelIdeal_ReferenceIdeal (hKernelIdeal := Cert.KernelIdeal.Gen.facts)
    (hReferenceIdeal := Cert.ReferenceIdeal.Gen.facts) := fun m g m' g' _ hargs => by
  refine ⟨fun c => Cert.KernelIdeal.Hand.outAt m c,
    (θ_run Cert.KernelIdeal.defs _ _).mono (fun _ h c => h.1 c) (Cert.KernelIdeal.Hand.run_main m g),
    (θ_run Cert.ReferenceIdeal.defs _ _).mono (fun _ h c => ⟨(h c).1.trans ?_, (h c).2⟩) (Cert.ReferenceIdeal.Value.run m' g')⟩
  obtain ⟨e0, e1, e2, e3, e4, -, -⟩ := hargs c
  refine (Cert.Router.reference_eq _ _ _ _ _).trans (Eq.trans ?_ (Cert.Router.kernel_eq m c).symm)
  funext j
  exact congrFun (congrFun (congr (congr (congr (congr (congrArg Cert.Router.answer e0) e1) e2) e3) e4) (j 0)) (j 1)

/-- Everything the certificate claims. -/
theorem claim : Cert.Claim := ⟨Cert.Kernel.Gen.facts, Cert.KernelIdeal.Gen.facts, Cert.ReferenceIdeal.Gen.facts,
  kernel_frame, kernelIdeal_frame, referenceIdeal_frame, trivial, algebraic⟩

end Cert.Proof

end
